-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Rest (m : (ℓ : Loc Cert.Rest.nD Cert.Rest.τ Cert.Rest.sig) → Buf (Elt Bits) ℓ) : Prop :=
  True

def Pre_RestIdeal (m : (ℓ : Loc Cert.RestIdeal.nD Cert.RestIdeal.τ Cert.RestIdeal.sig) → Buf (Elt Ideal) ℓ) : Prop :=
  True

def Pre_RestRefIdeal (m : (ℓ : Loc Cert.RestRefIdeal.nD Cert.RestRefIdeal.τ Cert.RestRefIdeal.sig) → Buf (Elt Ideal) ℓ) : Prop :=
  True

def Pre_Vals (m : (ℓ : Loc Cert.Vals.nD Cert.Vals.τ Cert.Vals.sig) → Buf (Elt Bits) ℓ) : Prop :=
  True

def Pre_ValsIdeal (m : (ℓ : Loc Cert.ValsIdeal.nD Cert.ValsIdeal.τ Cert.ValsIdeal.sig) → Buf (Elt Ideal) ℓ) : Prop :=
  True

def Pre_ValsRefIdeal (m : (ℓ : Loc Cert.ValsRefIdeal.nD Cert.ValsRefIdeal.τ Cert.ValsRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Rest [hRest : Cert.Rest.Facts] : Prop :=
  ∀ (m : (ℓ : Loc Cert.Rest.nD Cert.Rest.τ Cert.Rest.sig) → Buf (Elt Bits) ℓ) (g : Dev Cert.Rest.nD → PrngReg), Pre_Rest m →
    θ_run (Cert.Rest.defs (F := Bits)) (onTc (τ := Cert.Rest.τ) (Cert.Rest.main (F := Bits))) ⟨m, fun _ => 0, g⟩ (fun r => (∀ c : Dev Cert.Rest.nD,
      r.2.mem ((c.tc : Thread Cert.Rest.nD Cert.Rest.τ).loc Cert.Rest.main_arg0) = m ((c.tc : Thread Cert.Rest.nD Cert.Rest.τ).loc Cert.Rest.main_arg0)
      ∧ r.2.mem ((c.tc : Thread Cert.Rest.nD Cert.Rest.τ).loc Cert.Rest.main_arg1) = m ((c.tc : Thread Cert.Rest.nD Cert.Rest.τ).loc Cert.Rest.main_arg1)
      ∧ r.2.mem ((c.tc : Thread Cert.Rest.nD Cert.Rest.τ).loc Cert.Rest.main_arg2) = m ((c.tc : Thread Cert.Rest.nD Cert.Rest.τ).loc Cert.Rest.main_arg2))
      ∧ r.2.sem = fun _ => 0)

def quiescent_RestIdeal [hRestIdeal : Cert.RestIdeal.Facts] : Prop :=
  ∀ (m : (ℓ : Loc Cert.RestIdeal.nD Cert.RestIdeal.τ Cert.RestIdeal.sig) → Buf (Elt Ideal) ℓ) (g : Dev Cert.RestIdeal.nD → PrngReg), Pre_RestIdeal m →
    θ_run (Cert.RestIdeal.defs (F := Ideal)) (onTc (τ := Cert.RestIdeal.τ) (Cert.RestIdeal.main (F := Ideal))) ⟨m, fun _ => 0, g⟩ (fun r => (∀ c : Dev Cert.RestIdeal.nD,
      r.2.mem ((c.tc : Thread Cert.RestIdeal.nD Cert.RestIdeal.τ).loc Cert.RestIdeal.main_arg0) = m ((c.tc : Thread Cert.RestIdeal.nD Cert.RestIdeal.τ).loc Cert.RestIdeal.main_arg0)
      ∧ r.2.mem ((c.tc : Thread Cert.RestIdeal.nD Cert.RestIdeal.τ).loc Cert.RestIdeal.main_arg1) = m ((c.tc : Thread Cert.RestIdeal.nD Cert.RestIdeal.τ).loc Cert.RestIdeal.main_arg1)
      ∧ r.2.mem ((c.tc : Thread Cert.RestIdeal.nD Cert.RestIdeal.τ).loc Cert.RestIdeal.main_arg2) = m ((c.tc : Thread Cert.RestIdeal.nD Cert.RestIdeal.τ).loc Cert.RestIdeal.main_arg2))
      ∧ r.2.sem = fun _ => 0)

def quiescent_RestRefIdeal [hRestRefIdeal : Cert.RestRefIdeal.Facts] : Prop :=
  ∀ (m : (ℓ : Loc Cert.RestRefIdeal.nD Cert.RestRefIdeal.τ Cert.RestRefIdeal.sig) → Buf (Elt Ideal) ℓ) (g : Dev Cert.RestRefIdeal.nD → PrngReg), Pre_RestRefIdeal m →
    θ_run (Cert.RestRefIdeal.defs (F := Ideal)) (onTc (τ := Cert.RestRefIdeal.τ) (Cert.RestRefIdeal.main (F := Ideal))) ⟨m, fun _ => 0, g⟩ (fun r => (∀ c : Dev Cert.RestRefIdeal.nD,
      r.2.mem ((c.tc : Thread Cert.RestRefIdeal.nD Cert.RestRefIdeal.τ).loc Cert.RestRefIdeal.main_arg0) = m ((c.tc : Thread Cert.RestRefIdeal.nD Cert.RestRefIdeal.τ).loc Cert.RestRefIdeal.main_arg0)
      ∧ r.2.mem ((c.tc : Thread Cert.RestRefIdeal.nD Cert.RestRefIdeal.τ).loc Cert.RestRefIdeal.main_arg1) = m ((c.tc : Thread Cert.RestRefIdeal.nD Cert.RestRefIdeal.τ).loc Cert.RestRefIdeal.main_arg1)
      ∧ r.2.mem ((c.tc : Thread Cert.RestRefIdeal.nD Cert.RestRefIdeal.τ).loc Cert.RestRefIdeal.main_arg2) = m ((c.tc : Thread Cert.RestRefIdeal.nD Cert.RestRefIdeal.τ).loc Cert.RestRefIdeal.main_arg2))
      ∧ r.2.sem = fun _ => 0)

def quiescent_Vals [hVals : Cert.Vals.Facts] : Prop :=
  ∀ (m : (ℓ : Loc Cert.Vals.nD Cert.Vals.τ Cert.Vals.sig) → Buf (Elt Bits) ℓ) (g : Dev Cert.Vals.nD → PrngReg), Pre_Vals m →
    θ_run (Cert.Vals.defs (F := Bits)) (onTc (τ := Cert.Vals.τ) (Cert.Vals.main (F := Bits))) ⟨m, fun _ => 0, g⟩ (fun r => (∀ c : Dev Cert.Vals.nD,
      r.2.mem ((c.tc : Thread Cert.Vals.nD Cert.Vals.τ).loc Cert.Vals.main_arg0) = m ((c.tc : Thread Cert.Vals.nD Cert.Vals.τ).loc Cert.Vals.main_arg0)
      ∧ r.2.mem ((c.tc : Thread Cert.Vals.nD Cert.Vals.τ).loc Cert.Vals.main_arg1) = m ((c.tc : Thread Cert.Vals.nD Cert.Vals.τ).loc Cert.Vals.main_arg1))
      ∧ r.2.sem = fun _ => 0)

def quiescent_ValsIdeal [hValsIdeal : Cert.ValsIdeal.Facts] : Prop :=
  ∀ (m : (ℓ : Loc Cert.ValsIdeal.nD Cert.ValsIdeal.τ Cert.ValsIdeal.sig) → Buf (Elt Ideal) ℓ) (g : Dev Cert.ValsIdeal.nD → PrngReg), Pre_ValsIdeal m →
    θ_run (Cert.ValsIdeal.defs (F := Ideal)) (onTc (τ := Cert.ValsIdeal.τ) (Cert.ValsIdeal.main (F := Ideal))) ⟨m, fun _ => 0, g⟩ (fun r => (∀ c : Dev Cert.ValsIdeal.nD,
      r.2.mem ((c.tc : Thread Cert.ValsIdeal.nD Cert.ValsIdeal.τ).loc Cert.ValsIdeal.main_arg0) = m ((c.tc : Thread Cert.ValsIdeal.nD Cert.ValsIdeal.τ).loc Cert.ValsIdeal.main_arg0)
      ∧ r.2.mem ((c.tc : Thread Cert.ValsIdeal.nD Cert.ValsIdeal.τ).loc Cert.ValsIdeal.main_arg1) = m ((c.tc : Thread Cert.ValsIdeal.nD Cert.ValsIdeal.τ).loc Cert.ValsIdeal.main_arg1))
      ∧ r.2.sem = fun _ => 0)

def quiescent_ValsRefIdeal [hValsRefIdeal : Cert.ValsRefIdeal.Facts] : Prop :=
  ∀ (m : (ℓ : Loc Cert.ValsRefIdeal.nD Cert.ValsRefIdeal.τ Cert.ValsRefIdeal.sig) → Buf (Elt Ideal) ℓ) (g : Dev Cert.ValsRefIdeal.nD → PrngReg), Pre_ValsRefIdeal m →
    θ_run (Cert.ValsRefIdeal.defs (F := Ideal)) (onTc (τ := Cert.ValsRefIdeal.τ) (Cert.ValsRefIdeal.main (F := Ideal))) ⟨m, fun _ => 0, g⟩ (fun r => (∀ c : Dev Cert.ValsRefIdeal.nD,
      r.2.mem ((c.tc : Thread Cert.ValsRefIdeal.nD Cert.ValsRefIdeal.τ).loc Cert.ValsRefIdeal.main_arg0) = m ((c.tc : Thread Cert.ValsRefIdeal.nD Cert.ValsRefIdeal.τ).loc Cert.ValsRefIdeal.main_arg0)
      ∧ r.2.mem ((c.tc : Thread Cert.ValsRefIdeal.nD Cert.ValsRefIdeal.τ).loc Cert.ValsRefIdeal.main_arg1) = m ((c.tc : Thread Cert.ValsRefIdeal.nD Cert.ValsRefIdeal.τ).loc Cert.ValsRefIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2)
      ∧ r.2.mem ((c.tc : Thread Cert.Rope.nD Cert.Rope.τ).loc Cert.Rope.main_arg3) = m ((c.tc : Thread Cert.Rope.nD Cert.Rope.τ).loc Cert.Rope.main_arg3))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
      ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1)
      ∧ r.2.mem ((c.tc : Thread Cert.RopeRefIdeal.nD Cert.RopeRefIdeal.τ).loc Cert.RopeRefIdeal.main_arg2) = m ((c.tc : Thread Cert.RopeRefIdeal.nD Cert.RopeRefIdeal.τ).loc Cert.RopeRefIdeal.main_arg2)
      ∧ r.2.mem ((c.tc : Thread Cert.RopeRefIdeal.nD Cert.RopeRefIdeal.τ).loc Cert.RopeRefIdeal.main_arg3) = m ((c.tc : Thread Cert.RopeRefIdeal.nD Cert.RopeRefIdeal.τ).loc Cert.RopeRefIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v108_0)) (v1 : (c : Dev Cert.KernelIdeal.nD) → Buf (Elt Ideal) ((c.tc : Thread Cert.KernelIdeal.nD Cert.KernelIdeal.τ).loc Cert.KernelIdeal.main_v108_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108_0) = v0 c
          ∧ r.2.mem ((c.tc : Thread Cert.KernelIdeal.nD Cert.KernelIdeal.τ).loc Cert.KernelIdeal.main_v108_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v53_8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v23) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Rest_RestIdeal : Prop :=
  True

def algebraic_RestIdeal_RestRefIdeal [hRestIdeal : Cert.RestIdeal.Facts] [hRestRefIdeal : Cert.RestRefIdeal.Facts] : Prop :=
  ∀ (m : (ℓ : Loc Cert.RestIdeal.nD Cert.RestIdeal.τ Cert.RestIdeal.sig) → Buf (Elt Ideal) ℓ) (g : Dev Cert.RestIdeal.nD → PrngReg)
    (m' : (ℓ : Loc Cert.RestRefIdeal.nD Cert.RestRefIdeal.τ Cert.RestRefIdeal.sig) → Buf (Elt Ideal) ℓ) (g' : Dev Cert.RestRefIdeal.nD → PrngReg), Pre_RestIdeal m →
    (∀ c : Dev Cert.RestIdeal.nD,
      m' ((c.tc : Thread Cert.RestRefIdeal.nD Cert.RestRefIdeal.τ).loc Cert.RestRefIdeal.main_arg0) = m ((c.tc : Thread Cert.RestIdeal.nD Cert.RestIdeal.τ).loc Cert.RestIdeal.main_arg0)
      ∧ m' ((c.tc : Thread Cert.RestRefIdeal.nD Cert.RestRefIdeal.τ).loc Cert.RestRefIdeal.main_arg1) = m ((c.tc : Thread Cert.RestIdeal.nD Cert.RestIdeal.τ).loc Cert.RestIdeal.main_arg1)
      ∧ m' ((c.tc : Thread Cert.RestRefIdeal.nD Cert.RestRefIdeal.τ).loc Cert.RestRefIdeal.main_arg2) = m ((c.tc : Thread Cert.RestIdeal.nD Cert.RestIdeal.τ).loc Cert.RestIdeal.main_arg2)) →
    ∃ (v0 : (c : Dev Cert.RestIdeal.nD) → Buf (Elt Ideal) ((c.tc : Thread Cert.RestIdeal.nD Cert.RestIdeal.τ).loc Cert.RestIdeal.main_v0_0)) (v1 : (c : Dev Cert.RestIdeal.nD) → Buf (Elt Ideal) ((c.tc : Thread Cert.RestIdeal.nD Cert.RestIdeal.τ).loc Cert.RestIdeal.main_v0_1)),
      θ_run (Cert.RestIdeal.defs (F := Ideal)) (onTc (τ := Cert.RestIdeal.τ) (Cert.RestIdeal.main (F := Ideal))) ⟨m, fun _ => 0, g⟩ (fun r => ∀ c : Dev Cert.RestIdeal.nD,
          r.2.mem ((c.tc : Thread Cert.RestIdeal.nD Cert.RestIdeal.τ).loc Cert.RestIdeal.main_v0_0) = v0 c
          ∧ r.2.mem ((c.tc : Thread Cert.RestIdeal.nD Cert.RestIdeal.τ).loc Cert.RestIdeal.main_v0_1) = v1 c
          ∧ r.2.mem ((c.tc : Thread Cert.RestIdeal.nD Cert.RestIdeal.τ).loc Cert.RestIdeal.main_arg0) = m ((c.tc : Thread Cert.RestIdeal.nD Cert.RestIdeal.τ).loc Cert.RestIdeal.main_arg0)
          ∧ r.2.mem ((c.tc : Thread Cert.RestIdeal.nD Cert.RestIdeal.τ).loc Cert.RestIdeal.main_arg1) = m ((c.tc : Thread Cert.RestIdeal.nD Cert.RestIdeal.τ).loc Cert.RestIdeal.main_arg1)
          ∧ r.2.mem ((c.tc : Thread Cert.RestIdeal.nD Cert.RestIdeal.τ).loc Cert.RestIdeal.main_arg2) = m ((c.tc : Thread Cert.RestIdeal.nD Cert.RestIdeal.τ).loc Cert.RestIdeal.main_arg2))
      ∧ θ_run (Cert.RestRefIdeal.defs (F := Ideal)) (onTc (τ := Cert.RestRefIdeal.τ) (Cert.RestRefIdeal.main (F := Ideal))) ⟨m', fun _ => 0, g'⟩ (fun r => ∀ c : Dev Cert.RestRefIdeal.nD,
          r.2.mem ((c.tc : Thread Cert.RestRefIdeal.nD Cert.RestRefIdeal.τ).loc Cert.RestRefIdeal.main_v5) = v0 c
          ∧ r.2.mem ((c.tc : Thread Cert.RestRefIdeal.nD Cert.RestRefIdeal.τ).loc Cert.RestRefIdeal.main_v6) = v1 c
          ∧ r.2.mem ((c.tc : Thread Cert.RestRefIdeal.nD Cert.RestRefIdeal.τ).loc Cert.RestRefIdeal.main_arg0) = m' ((c.tc : Thread Cert.RestRefIdeal.nD Cert.RestRefIdeal.τ).loc Cert.RestRefIdeal.main_arg0)
          ∧ r.2.mem ((c.tc : Thread Cert.RestRefIdeal.nD Cert.RestRefIdeal.τ).loc Cert.RestRefIdeal.main_arg1) = m' ((c.tc : Thread Cert.RestRefIdeal.nD Cert.RestRefIdeal.τ).loc Cert.RestRefIdeal.main_arg1)
          ∧ r.2.mem ((c.tc : Thread Cert.RestRefIdeal.nD Cert.RestRefIdeal.τ).loc Cert.RestRefIdeal.main_arg2) = m' ((c.tc : Thread Cert.RestRefIdeal.nD Cert.RestRefIdeal.τ).loc Cert.RestRefIdeal.main_arg2))

def preserves_Vals_ValsIdeal : Prop :=
  True

def algebraic_ValsIdeal_ValsRefIdeal [hValsIdeal : Cert.ValsIdeal.Facts] [hValsRefIdeal : Cert.ValsRefIdeal.Facts] : Prop :=
  ∀ (m : (ℓ : Loc Cert.ValsIdeal.nD Cert.ValsIdeal.τ Cert.ValsIdeal.sig) → Buf (Elt Ideal) ℓ) (g : Dev Cert.ValsIdeal.nD → PrngReg)
    (m' : (ℓ : Loc Cert.ValsRefIdeal.nD Cert.ValsRefIdeal.τ Cert.ValsRefIdeal.sig) → Buf (Elt Ideal) ℓ) (g' : Dev Cert.ValsRefIdeal.nD → PrngReg), Pre_ValsIdeal m →
    (∀ c : Dev Cert.ValsIdeal.nD,
      m' ((c.tc : Thread Cert.ValsRefIdeal.nD Cert.ValsRefIdeal.τ).loc Cert.ValsRefIdeal.main_arg0) = m ((c.tc : Thread Cert.ValsIdeal.nD Cert.ValsIdeal.τ).loc Cert.ValsIdeal.main_arg0)
      ∧ m' ((c.tc : Thread Cert.ValsRefIdeal.nD Cert.ValsRefIdeal.τ).loc Cert.ValsRefIdeal.main_arg1) = m ((c.tc : Thread Cert.ValsIdeal.nD Cert.ValsIdeal.τ).loc Cert.ValsIdeal.main_arg1)) →
    ∃ (v0 : (c : Dev Cert.ValsIdeal.nD) → Buf (Elt Ideal) ((c.tc : Thread Cert.ValsIdeal.nD Cert.ValsIdeal.τ).loc Cert.ValsIdeal.main_v0)),
      θ_run (Cert.ValsIdeal.defs (F := Ideal)) (onTc (τ := Cert.ValsIdeal.τ) (Cert.ValsIdeal.main (F := Ideal))) ⟨m, fun _ => 0, g⟩ (fun r => ∀ c : Dev Cert.ValsIdeal.nD,
          r.2.mem ((c.tc : Thread Cert.ValsIdeal.nD Cert.ValsIdeal.τ).loc Cert.ValsIdeal.main_v0) = v0 c
          ∧ r.2.mem ((c.tc : Thread Cert.ValsIdeal.nD Cert.ValsIdeal.τ).loc Cert.ValsIdeal.main_arg0) = m ((c.tc : Thread Cert.ValsIdeal.nD Cert.ValsIdeal.τ).loc Cert.ValsIdeal.main_arg0)
          ∧ r.2.mem ((c.tc : Thread Cert.ValsIdeal.nD Cert.ValsIdeal.τ).loc Cert.ValsIdeal.main_arg1) = m ((c.tc : Thread Cert.ValsIdeal.nD Cert.ValsIdeal.τ).loc Cert.ValsIdeal.main_arg1))
      ∧ θ_run (Cert.ValsRefIdeal.defs (F := Ideal)) (onTc (τ := Cert.ValsRefIdeal.τ) (Cert.ValsRefIdeal.main (F := Ideal))) ⟨m', fun _ => 0, g'⟩ (fun r => ∀ c : Dev Cert.ValsRefIdeal.nD,
          r.2.mem ((c.tc : Thread Cert.ValsRefIdeal.nD Cert.ValsRefIdeal.τ).loc Cert.ValsRefIdeal.main_v3) = v0 c
          ∧ r.2.mem ((c.tc : Thread Cert.ValsRefIdeal.nD Cert.ValsRefIdeal.τ).loc Cert.ValsRefIdeal.main_arg0) = m' ((c.tc : Thread Cert.ValsRefIdeal.nD Cert.ValsRefIdeal.τ).loc Cert.ValsRefIdeal.main_arg0)
          ∧ r.2.mem ((c.tc : Thread Cert.ValsRefIdeal.nD Cert.ValsRefIdeal.τ).loc Cert.ValsRefIdeal.main_arg1) = m' ((c.tc : Thread Cert.ValsRefIdeal.nD Cert.ValsRefIdeal.τ).loc Cert.ValsRefIdeal.main_arg1))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)) →
    ∃ (v0 : (c : Dev Cert.GluIdeal.nD) → Buf (Elt Ideal) ((c.tc : Thread Cert.GluIdeal.nD Cert.GluIdeal.τ).loc Cert.GluIdeal.main_v0)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0) = v0 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v10) = v0 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)) →
    ∃ (v0 : (c : Dev Cert.OutprojIdeal.nD) → Buf (Elt Ideal) ((c.tc : Thread Cert.OutprojIdeal.nD Cert.OutprojIdeal.τ).loc Cert.OutprojIdeal.main_v0)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v0) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v2) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)
      ∧ m' ((c.tc : Thread Cert.RopeRefIdeal.nD Cert.RopeRefIdeal.τ).loc Cert.RopeRefIdeal.main_arg2) = m ((c.tc : Thread Cert.RopeIdeal.nD Cert.RopeIdeal.τ).loc Cert.RopeIdeal.main_arg2)
      ∧ m' ((c.tc : Thread Cert.RopeRefIdeal.nD Cert.RopeRefIdeal.τ).loc Cert.RopeRefIdeal.main_arg3) = m ((c.tc : Thread Cert.RopeIdeal.nD Cert.RopeIdeal.τ).loc Cert.RopeIdeal.main_arg3)) →
    ∃ (v0 : (c : Dev Cert.RopeIdeal.nD) → Buf (Elt Ideal) ((c.tc : Thread Cert.RopeIdeal.nD Cert.RopeIdeal.τ).loc Cert.RopeIdeal.main_v74_0)) (v1 : (c : Dev Cert.RopeIdeal.nD) → Buf (Elt Ideal) ((c.tc : Thread Cert.RopeIdeal.nD Cert.RopeIdeal.τ).loc Cert.RopeIdeal.main_v74_1)) (v2 : (c : Dev Cert.RopeIdeal.nD) → Buf (Elt Ideal) ((c.tc : Thread Cert.RopeIdeal.nD Cert.RopeIdeal.τ).loc Cert.RopeIdeal.main_v74_2)) (v3 : (c : Dev Cert.RopeIdeal.nD) → Buf (Elt Ideal) ((c.tc : Thread Cert.RopeIdeal.nD Cert.RopeIdeal.τ).loc Cert.RopeIdeal.main_v74_3)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v74_0) = v0 c
          ∧ r.2.mem ((c.tc : Thread Cert.RopeIdeal.nD Cert.RopeIdeal.τ).loc Cert.RopeIdeal.main_v74_1) = v1 c
          ∧ r.2.mem ((c.tc : Thread Cert.RopeIdeal.nD Cert.RopeIdeal.τ).loc Cert.RopeIdeal.main_v74_2) = v2 c
          ∧ r.2.mem ((c.tc : Thread Cert.RopeIdeal.nD Cert.RopeIdeal.τ).loc Cert.RopeIdeal.main_v74_3) = v3 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
          ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v91) = v0 c
          ∧ r.2.mem ((c.tc : Thread Cert.RopeRefIdeal.nD Cert.RopeRefIdeal.τ).loc Cert.RopeRefIdeal.main_v93) = v1 c
          ∧ r.2.mem ((c.tc : Thread Cert.RopeRefIdeal.nD Cert.RopeRefIdeal.τ).loc Cert.RopeRefIdeal.main_v94) = v2 c
          ∧ r.2.mem ((c.tc : Thread Cert.RopeRefIdeal.nD Cert.RopeRefIdeal.τ).loc Cert.RopeRefIdeal.main_v95) = v3 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1)
          ∧ r.2.mem ((c.tc : Thread Cert.RopeRefIdeal.nD Cert.RopeRefIdeal.τ).loc Cert.RopeRefIdeal.main_arg2) = m' ((c.tc : Thread Cert.RopeRefIdeal.nD Cert.RopeRefIdeal.τ).loc Cert.RopeRefIdeal.main_arg2)
          ∧ r.2.mem ((c.tc : Thread Cert.RopeRefIdeal.nD Cert.RopeRefIdeal.τ).loc Cert.RopeRefIdeal.main_arg3) = m' ((c.tc : Thread Cert.RopeRefIdeal.nD Cert.RopeRefIdeal.τ).loc Cert.RopeRefIdeal.main_arg3))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeRefIdeal : Cert.MergeRefIdeal.Facts) (hRest : Cert.Rest.Facts) (hRestIdeal : Cert.RestIdeal.Facts) (hRestRefIdeal : Cert.RestRefIdeal.Facts) (hVals : Cert.Vals.Facts) (hValsIdeal : Cert.ValsIdeal.Facts) (hValsRefIdeal : Cert.ValsRefIdeal.Facts) (hGlu : Cert.Glu.Facts) (hGluIdeal : Cert.GluIdeal.Facts) (hGluRefIdeal : Cert.GluRefIdeal.Facts) (hOutproj : Cert.Outproj.Facts) (hOutprojIdeal : Cert.OutprojIdeal.Facts) (hOutprojRefIdeal : Cert.OutprojRefIdeal.Facts) (hRope : Cert.Rope.Facts) (hRopeIdeal : Cert.RopeIdeal.Facts) (hRopeRefIdeal : Cert.RopeRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeRefIdeal (hMergeRefIdeal := hMergeRefIdeal)
    ∧ quiescent_Rest (hRest := hRest)
    ∧ quiescent_RestIdeal (hRestIdeal := hRestIdeal)
    ∧ quiescent_RestRefIdeal (hRestRefIdeal := hRestRefIdeal)
    ∧ quiescent_Vals (hVals := hVals)
    ∧ quiescent_ValsIdeal (hValsIdeal := hValsIdeal)
    ∧ quiescent_ValsRefIdeal (hValsRefIdeal := hValsRefIdeal)
    ∧ quiescent_Glu (hGlu := hGlu)
    ∧ quiescent_GluIdeal (hGluIdeal := hGluIdeal)
    ∧ quiescent_GluRefIdeal (hGluRefIdeal := hGluRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Rope (hRope := hRope)
    ∧ quiescent_RopeIdeal (hRopeIdeal := hRopeIdeal)
    ∧ quiescent_RopeRefIdeal (hRopeRefIdeal := hRopeRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeRefIdeal (hMergeIdeal := hMergeIdeal) (hMergeRefIdeal := hMergeRefIdeal)
    ∧ preserves_Rest_RestIdeal
    ∧ algebraic_RestIdeal_RestRefIdeal (hRestIdeal := hRestIdeal) (hRestRefIdeal := hRestRefIdeal)
    ∧ preserves_Vals_ValsIdeal
    ∧ algebraic_ValsIdeal_ValsRefIdeal (hValsIdeal := hValsIdeal) (hValsRefIdeal := hValsRefIdeal)
    ∧ preserves_Glu_GluIdeal
    ∧ algebraic_GluIdeal_GluRefIdeal (hGluIdeal := hGluIdeal) (hGluRefIdeal := hGluRefIdeal)
    ∧ preserves_Outproj_OutprojIdeal
    ∧ algebraic_OutprojIdeal_OutprojRefIdeal (hOutprojIdeal := hOutprojIdeal) (hOutprojRefIdeal := hOutprojRefIdeal)
    ∧ preserves_Rope_RopeIdeal
    ∧ algebraic_RopeIdeal_RopeRefIdeal (hRopeIdeal := hRopeIdeal) (hRopeRefIdeal := hRopeRefIdeal)
-- ==== Pre_finite.lean ====
abbrev S4x2048x8x256 : Shape := ⟨4, ![4, 2048, 8, 256]⟩
abbrev S4x2048x8x512 : Shape := ⟨4, ![4, 2048, 8, 512]⟩
abbrev S4x2048x4096 : Shape := ⟨3, ![4, 2048, 4096]⟩
abbrev S_ : Shape := ⟨0, ![]⟩

class Facts : Prop where
  bcast_S_S4x2048x8x256 : S_.BroadcastsInDim S4x2048x8x256 (![] : Fin 0 → Fin S4x2048x8x256.rank)
  reducesTo_S4x2048x8x256_S_d0_1_2_3 : S4x2048x8x256.ReducesTo [0, 1, 2, 3] S_
  h_S_ : 0 < S_.numel
  bcast_S_S4x2048x8x512 : S_.BroadcastsInDim S4x2048x8x512 (![] : Fin 0 → Fin S4x2048x8x512.rank)
  reducesTo_S4x2048x8x512_S_d0_1_2_3 : S4x2048x8x512.ReducesTo [0, 1, 2, 3] S_

variable [Facts]

def fn {F : FTy → Type} [FloatOps F] (main_arg0 : FVec F S4x2048x8x256 .f32) (main_arg1 : FVec F S4x2048x8x256 .f32) (main_arg2 : FVec F S4x2048x8x512 .f32) (main_arg3 : FVec F S4x2048x4096 .f32) : IVec S_ 1 :=
  let main_v0 : FVec F S4x2048x8x256 .f32 := Host.absf main_arg0
  let main_cst : FVec F S_ .f32 := constant S_ .f32 0x7F800000#32
  let main_v1 : FVec F S4x2048x8x256 .f32 := broadcastInDim S4x2048x8x256 ![] bcast_S_S4x2048x8x256 main_cst
  let main_v2 : IVec S4x2048x8x256 1 := cmpf .olt main_v0 main_v1
  let main_c : IVec S_ 1 := constantI S_ 1 1#1
  let main_v3 : IVec S_ 1 := (fun x v => Host.reduce IntOp.andi x v reducesTo_S4x2048x8x256_S_d0_1_2_3 h_S_) main_v2 main_c
  let main_v4 : FVec F S4x2048x8x256 .f32 := Host.absf main_arg1
  let main_cst_0 : FVec F S_ .f32 := constant S_ .f32 0x7F800000#32
  let main_v5 : FVec F S4x2048x8x256 .f32 := broadcastInDim S4x2048x8x256 ![] bcast_S_S4x2048x8x256 main_cst_0
  let main_v6 : IVec S4x2048x8x256 1 := cmpf .olt main_v4 main_v5
  let main_c_1 : IVec S_ 1 := constantI S_ 1 1#1
  let main_v7 : IVec S_ 1 := (fun x v => Host.reduce IntOp.andi x v reducesTo_S4x2048x8x256_S_d0_1_2_3 h_S_) main_v6 main_c_1
  let main_v8 : IVec S_ 1 := andi main_v3 main_v7
  let main_v9 : FVec F S4x2048x8x512 .f32 := Host.absf main_arg2
  let main_cst_2 : FVec F S_ .f32 := constant S_ .f32 0x7F800000#32
  let main_v10 : FVec F S4x2048x8x512 .f32 := broadcastInDim S4x2048x8x512 ![] bcast_S_S4x2048x8x512 main_cst_2
  let main_v11 : IVec S4x2048x8x512 1 := cmpf .olt main_v9 main_v10
  let main_c_3 : IVec S_ 1 := constantI S_ 1 1#1
  let main_v12 : IVec S_ 1 := (fun x v => Host.reduce IntOp.andi x v reducesTo_S4x2048x8x512_S_d0_1_2_3 h_S_) main_v11 main_c_3
  let main_v13 : IVec S_ 1 := andi main_v8 main_v12
  main_v13
-- ==== Kernel.lean ====
abbrev S4x2048x8x256 : Shape := ⟨4, ![4, 2048, 8, 256]⟩
abbrev S4x2048x8x512 : Shape := ⟨4, ![4, 2048, 8, 512]⟩
abbrev S4x2048x4096 : Shape := ⟨3, ![4, 2048, 4096]⟩
abbrev S8192x2048 : Shape := ⟨2, ![8192, 2048]⟩
abbrev S8192x4096 : Shape := ⟨2, ![8192, 4096]⟩
abbrev S8 : Shape := ⟨1, ![8]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S8x1x1 : Shape := ⟨3, ![8, 1, 1]⟩
abbrev S8x256x256 : Shape := ⟨3, ![8, 256, 256]⟩
abbrev S1x8 : Shape := ⟨2, ![1, 8]⟩
abbrev S256x8 : Shape := ⟨2, ![256, 8]⟩
abbrev S32x256x8x256 : Shape := ⟨4, ![32, 256, 8, 256]⟩
abbrev S1x256x8x1 : Shape := ⟨4, ![1, 256, 8, 1]⟩
abbrev S8x256 : Shape := ⟨2, ![8, 256]⟩
abbrev S8x256x1 : Shape := ⟨3, ![8, 256, 1]⟩
abbrev S8x256x128 : Shape := ⟨3, ![8, 256, 128]⟩
abbrev S4x8x256x512 : Shape := ⟨4, ![4, 8, 256, 512]⟩
abbrev S256x2048 : Shape := ⟨2, ![256, 2048]⟩
abbrev S256x4096 : Shape := ⟨2, ![256, 4096]⟩
abbrev S1x8x256x512 : Shape := ⟨4, ![1, 8, 256, 512]⟩
abbrev S256x512 : Shape := ⟨2, ![256, 512]⟩
abbrev S1x1x256x512 : Shape := ⟨4, ![1, 1, 256, 512]⟩
abbrev S1x256x128 : Shape := ⟨3, ![1, 256, 128]⟩
abbrev S256x128 : Shape := ⟨2, ![256, 128]⟩
abbrev S1 : Shape := ⟨1, ![1]⟩

abbrev nBuf : Space → Nat
  | .hbm => 136
  | .vmem => 16
  | .smem => 1
  | _ => 0

abbrev hbmTy0_0 (i : Nat) : BufTy := match i % 128 with
  | 0 => ⟨S4x2048x8x256, .f32⟩
  | 1 => ⟨S4x2048x8x256, .f32⟩
  | 2 => ⟨S4x2048x8x512, .f32⟩
  | 3 => ⟨S4x2048x4096, .f32⟩
  | 4 => ⟨S8192x2048, .f32⟩
  | 5 => ⟨S8192x2048, .f32⟩
  | 6 => ⟨S8192x4096, .f32⟩
  | 7 => ⟨S8192x4096, .bf16⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S8, .f32⟩
  | 16 => ⟨S8, .f32⟩
  | 17 => ⟨S8, .f32⟩
  | 18 => ⟨S256, .f32⟩
  | 19 => ⟨S256x1, .f32⟩
  | 20 => ⟨S1x256, .f32⟩
  | 21 => ⟨S256x256, .f32⟩
  | 22 => ⟨S256x256, .f32⟩
  | 23 => ⟨S256x256, .f32⟩
  | 24 => ⟨S1x256x256, .f32⟩
  | 25 => ⟨S_, .f32⟩
  | 26 => ⟨S1x256x256, .f32⟩
  | 27 => ⟨S1x256x256, .i1⟩
  | 28 => ⟨S_, .f32⟩
  | 29 => ⟨S256x256, .f32⟩
  | 30 => ⟨S256x256, .f32⟩
  | 31 => ⟨S1x256x256, .f32⟩
  | 32 => ⟨S8x1x1, .f32⟩
  | 33 => ⟨S8x256x256, .f32⟩
  | 34 => ⟨S8x256x256, .f32⟩
  | 35 => ⟨S8x256x256, .f32⟩
  | 36 => ⟨S8x256x256, .f32⟩
  | 37 => ⟨S_, .f32⟩
  | 38 => ⟨S8x256x256, .i1⟩
  | 39 => ⟨S8x256x256, .f32⟩
  | 40 => ⟨S8x256x256, .f32⟩
  | 41 => ⟨S256x1, .f32⟩
  | 42 => ⟨S_, .f32⟩
  | 43 => ⟨S256x1, .f32⟩
  | 44 => ⟨S256x1, .f32⟩
  | 45 => ⟨S1x8, .f32⟩
  | 46 => ⟨S256x8, .f32⟩
  | 47 => ⟨S256x8, .f32⟩
  | 48 => ⟨S256x8, .f32⟩
  | 49 => ⟨S256x8, .f32⟩
  | 50 => ⟨S_, .f32⟩
  | 51 => ⟨S_, .f32⟩
  | 52 => ⟨S_, .f32⟩
  | 53 => ⟨S256, .f32⟩
  | 54 => ⟨S256, .f32⟩
  | 55 => ⟨S256x1, .f32⟩
  | 56 => ⟨S1x8, .f32⟩
  | 57 => ⟨S256x8, .f32⟩
  | 58 => ⟨S256x8, .f32⟩
  | 59 => ⟨S256x8, .f32⟩
  | 60 => ⟨S256x8, .f32⟩
  | 61 => ⟨S_, .f32⟩
  | 62 => ⟨S8, .f32⟩
  | 63 => ⟨S8, .f32⟩
  | 64 => ⟨S8, .f32⟩
  | 65 => ⟨S32x256x8x256, .f32⟩
  | 66 => ⟨S1x256x8x1, .f32⟩
  | 67 => ⟨S32x256x8x256, .f32⟩
  | 68 => ⟨S32x256x8x256, .f32⟩
  | 69 => ⟨S8192x2048, .f32⟩
  | 70 => ⟨S8192x2048, .bf16⟩
  | 71 => ⟨S8192x4096, .f32⟩
  | 72 => ⟨S8192x4096, .bf16⟩
  | 73 => ⟨S8192x4096, .f32⟩
  | 74 => ⟨S8, .f32⟩
  | 75 => ⟨S_, .f32⟩
  | 76 => ⟨S8, .f32⟩
  | 77 => ⟨S8, .f32⟩
  | 78 => ⟨S_, .f32⟩
  | 79 => ⟨S8, .f32⟩
  | 80 => ⟨S8, .f32⟩
  | 81 => ⟨S8, .f32⟩
  | 82 => ⟨S8, .f32⟩
  | 83 => ⟨S8, .f32⟩
  | 84 => ⟨S256, .f32⟩
  | 85 => ⟨S256x1, .f32⟩
  | 86 => ⟨S1x256, .f32⟩
  | 87 => ⟨S256x256, .f32⟩
  | 88 => ⟨S256x256, .f32⟩
  | 89 => ⟨S256x256, .f32⟩
  | 90 => ⟨S1x256x256, .f32⟩
  | 91 => ⟨S_, .f32⟩
  | 92 => ⟨S1x256x256, .f32⟩
  | 93 => ⟨S1x256x256, .i1⟩
  | 94 => ⟨S_, .f32⟩
  | 95 => ⟨S256x256, .f32⟩
  | 96 => ⟨S256x256, .f32⟩
  | 97 => ⟨S1x256x256, .f32⟩
  | 98 => ⟨S8x1x1, .f32⟩
  | 99 => ⟨S8x256x256, .f32⟩
  | 100 => ⟨S8x256x256, .f32⟩
  | 101 => ⟨S8x256x256, .f32⟩
  | 102 => ⟨S8x256x256, .f32⟩
  | 103 => ⟨S_, .f32⟩
  | 104 => ⟨S8x256x256, .i1⟩
  | 105 => ⟨S8x256x256, .f32⟩
  | 106 => ⟨S8x256x256, .f32⟩
  | 107 => ⟨S256x1, .f32⟩
  | 108 => ⟨S_, .f32⟩
  | 109 => ⟨S256x1, .f32⟩
  | 110 => ⟨S256x1, .f32⟩
  | 111 => ⟨S1x8, .f32⟩
  | 112 => ⟨S256x8, .f32⟩
  | 113 => ⟨S256x8, .f32⟩
  | 114 => ⟨S256x8, .f32⟩
  | 115 => ⟨S256x8, .f32⟩
  | 116 => ⟨S_, .f32⟩
  | 117 => ⟨S_, .f32⟩
  | 118 => ⟨S_, .f32⟩
  | 119 => ⟨S256, .f32⟩
  | 120 => ⟨S256, .f32⟩
  | 121 => ⟨S256x1, .f32⟩
  | 122 => ⟨S1x8, .f32⟩
  | 123 => ⟨S256x8, .f32⟩
  | 124 => ⟨S256x8, .f32⟩
  | 125 => ⟨S256x8, .f32⟩
  | 126 => ⟨S256x8, .f32⟩
  | 127 => ⟨S_, .f32⟩
  | _ => ⟨S4x2048x8x256, .f32⟩

abbrev hbmTy0_1 (i : Nat) : BufTy := match i % 128 with
  | 0 => ⟨S8, .f32⟩
  | 1 => ⟨S8, .f32⟩
  | 2 => ⟨S8, .f32⟩
  | 3 => ⟨S8x256, .f32⟩
  | 4 => ⟨S8x256x1, .f32⟩
  | 5 => ⟨S8x256x128, .f32⟩
  | 6 => ⟨S8192x4096, .bf16⟩
  | 7 => ⟨S4x8x256x512, .f32⟩
  | _ => ⟨S4x2048x8x256, .f32⟩

abbrev hbmTy (i : Nat) : BufTy := match i / 128 with
  | 0 => hbmTy0_0 i
  | 1 => hbmTy0_1 i
  | _ => ⟨S4x2048x8x256, .f32⟩

abbrev bufTy : (tb : Table) → Fin (tcTables nBuf tb) → BufTy
  | .hbm, ⟨i, _⟩ => hbmTy i
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x4096, .bf16⟩
  | .local _ .vmem, ⟨7, _⟩ => ⟨S256x4096, .bf16⟩
  | .local _ .vmem, ⟨8, _⟩ => ⟨S256x4096, .f32⟩
  | .local _ .vmem, ⟨9, _⟩ => ⟨S256x4096, .f32⟩
  | .local _ .vmem, ⟨10, _⟩ => ⟨S8x256x256, .f32⟩
  | .local _ .vmem, ⟨11, _⟩ => ⟨S8x256x128, .f32⟩
  | .local _ .vmem, ⟨12, _⟩ => ⟨S256x4096, .bf16⟩
  | .local _ .vmem, ⟨13, _⟩ => ⟨S256x4096, .bf16⟩
  | .local _ .vmem, ⟨14, _⟩ => ⟨S1x8x256x512, .f32⟩
  | .local _ .vmem, ⟨15, _⟩ => ⟨S1x8x256x512, .f32⟩
  | .local _ .smem, ⟨0, _⟩ => ⟨S8, .f32⟩
  | _, _ => ⟨S4x2048x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_8 : Ref sig .tc := ⟨.hbm, 75, rfl⟩
abbrev main_v60 : Ref sig .tc := ⟨.hbm, 76, rfl⟩
abbrev main_v61 : Ref sig .tc := ⟨.hbm, 77, rfl⟩
abbrev main_cst_9 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_10 : Ref sig .tc := ⟨.hbm, 91, rfl⟩
abbrev main_v74 : Ref sig .tc := ⟨.hbm, 92, rfl⟩
abbrev main_v75 : Ref sig .tc := ⟨.hbm, 93, rfl⟩
abbrev main_cst_11 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_12 : Ref sig .tc := ⟨.hbm, 103, rfl⟩
abbrev main_call1_v0 : Ref sig .tc := ⟨.hbm, 104, rfl⟩
abbrev main_call1_v1 : Ref sig .tc := ⟨.hbm, 105, rfl⟩
abbrev main_v84 : Ref sig .tc := ⟨.hbm, 106, rfl⟩
abbrev main_v85 : Ref sig .tc := ⟨.hbm, 107, rfl⟩
abbrev main_cst_13 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_cst_14 : Ref sig .tc := ⟨.hbm, 116, rfl⟩
abbrev main_cst_15 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_cst_16 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108_0 : Ref sig .tc := ⟨.hbm, 134, rfl⟩
abbrev main_v108_1 : Ref sig .tc := ⟨.hbm, 135, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ReferenceIdeal.lean ====
abbrev S4x2048x8x256 : Shape := ⟨4, ![4, 2048, 8, 256]⟩
abbrev S4x2048x8x512 : Shape := ⟨4, ![4, 2048, 8, 512]⟩
abbrev S4x2048x4096 : Shape := ⟨3, ![4, 2048, 4096]⟩
abbrev S_ : Shape := ⟨0, ![]⟩
abbrev S4x8x256x512 : Shape := ⟨4, ![4, 8, 256, 512]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S8x1x1 : Shape := ⟨3, ![8, 1, 1]⟩
abbrev S8x128x128 : Shape := ⟨3, ![8, 128, 128]⟩
abbrev S1x8 : Shape := ⟨2, ![1, 8]⟩
abbrev S128x8 : Shape := ⟨2, ![128, 8]⟩
abbrev S4x16x128x8x256 : Shape := ⟨5, ![4, 16, 128, 8, 256]⟩
abbrev S16x4x128x8x256 : Shape := ⟨5, ![16, 4, 128, 8, 256]⟩
abbrev S4x16x128x8x512 : Shape := ⟨5, ![4, 16, 128, 8, 512]⟩
abbrev S16x4x128x8x512 : Shape := ⟨5, ![16, 4, 128, 8, 512]⟩
abbrev S1x4x128x8x256 : Shape := ⟨5, ![1, 4, 128, 8, 256]⟩
abbrev S4x128x8x256 : Shape := ⟨4, ![4, 128, 8, 256]⟩
abbrev S1x4x128x8x512 : Shape := ⟨5, ![1, 4, 128, 8, 512]⟩
abbrev S4x128x8x512 : Shape := ⟨4, ![4, 128, 8, 512]⟩
abbrev S4x8x128x128 : Shape := ⟨4, ![4, 8, 128, 128]⟩
abbrev S1x8x128x128 : Shape := ⟨4, ![1, 8, 128, 128]⟩
abbrev S4x8x512x128 : Shape := ⟨4, ![4, 8, 512, 128]⟩
abbrev S128x8x1 : Shape := ⟨3, ![128, 8, 1]⟩
abbrev S1x128x8x1 : Shape := ⟨4, ![1, 128, 8, 1]⟩
abbrev S1x8x1x1 : Shape := ⟨4, ![1, 8, 1, 1]⟩
abbrev S4x2048x8 : Shape := ⟨3, ![4, 2048, 8]⟩
abbrev S4x2048x8x1 : Shape := ⟨4, ![4, 2048, 8, 1]⟩
abbrev S8192x4096 : Shape := ⟨2, ![8192, 4096]⟩

abbrev nBuf : Space → Nat
  | .hbm => 160
  | .vmem => 0
  | .smem => 0
  | _ => 0

abbrev hbmTy0_0 (i : Nat) : BufTy := match i % 128 with
  | 0 => ⟨S4x2048x8x256, .f32⟩
  | 1 => ⟨S4x2048x8x256, .f32⟩
  | 2 => ⟨S4x2048x8x512, .f32⟩
  | 3 => ⟨S4x2048x4096, .f32⟩
  | 4 => ⟨S_, .f32⟩
  | 5 => ⟨S4x8x256x512, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S8, .f32⟩
  | 14 => ⟨S8, .f32⟩
  | 15 => ⟨S8, .f32⟩
  | 16 => ⟨S128, .f32⟩
  | 17 => ⟨S128x1, .f32⟩
  | 18 => ⟨S1x128, .f32⟩
  | 19 => ⟨S128x128, .f32⟩
  | 20 => ⟨S128x128, .f32⟩
  | 21 => ⟨S128x128, .f32⟩
  | 22 => ⟨S1x128x128, .f32⟩
  | 23 => ⟨S_, .f32⟩
  | 24 => ⟨S1x128x128, .f32⟩
  | 25 => ⟨S1x128x128, .i1⟩
  | 26 => ⟨S_, .f32⟩
  | 27 => ⟨S128x128, .f32⟩
  | 28 => ⟨S128x128, .f32⟩
  | 29 => ⟨S1x128x128, .f32⟩
  | 30 => ⟨S8x1x1, .f32⟩
  | 31 => ⟨S8x128x128, .f32⟩
  | 32 => ⟨S8x128x128, .f32⟩
  | 33 => ⟨S8x128x128, .f32⟩
  | 34 => ⟨S8x128x128, .f32⟩
  | 35 => ⟨S_, .f32⟩
  | 36 => ⟨S_, .f32⟩
  | 37 => ⟨S8x128x128, .i1⟩
  | 38 => ⟨S8x128x128, .f32⟩
  | 39 => ⟨S8x128x128, .f32⟩
  | 40 => ⟨S128x1, .f32⟩
  | 41 => ⟨S_, .f32⟩
  | 42 => ⟨S128x1, .f32⟩
  | 43 => ⟨S128x1, .f32⟩
  | 44 => ⟨S1x8, .f32⟩
  | 45 => ⟨S128x8, .f32⟩
  | 46 => ⟨S128x8, .f32⟩
  | 47 => ⟨S128x8, .f32⟩
  | 48 => ⟨S128x8, .f32⟩
  | 49 => ⟨S_, .f32⟩
  | 50 => ⟨S128, .f32⟩
  | 51 => ⟨S128, .f32⟩
  | 52 => ⟨S128x1, .f32⟩
  | 53 => ⟨S1x8, .f32⟩
  | 54 => ⟨S128x8, .f32⟩
  | 55 => ⟨S128x8, .f32⟩
  | 56 => ⟨S128x8, .f32⟩
  | 57 => ⟨S128x8, .f32⟩
  | 58 => ⟨S_, .f32⟩
  | 59 => ⟨S8, .f32⟩
  | 60 => ⟨S8, .f32⟩
  | 61 => ⟨S8, .f32⟩
  | 62 => ⟨S4x16x128x8x256, .f32⟩
  | 63 => ⟨S16x4x128x8x256, .f32⟩
  | 64 => ⟨S4x16x128x8x256, .f32⟩
  | 65 => ⟨S16x4x128x8x256, .f32⟩
  | 66 => ⟨S4x16x128x8x512, .f32⟩
  | 67 => ⟨S16x4x128x8x512, .f32⟩
  | 68 => ⟨S_, .f32⟩
  | 69 => ⟨S16x4x128x8x512, .f32⟩
  | 70 => ⟨S_, .i32⟩
  | 71 => ⟨S16x4x128x8x256, .f32⟩
  | 72 => ⟨S16x4x128x8x256, .f32⟩
  | 73 => ⟨S16x4x128x8x512, .f32⟩
  | 74 => ⟨S8x128x128, .f32⟩
  | 75 => ⟨S128x8, .f32⟩
  | 76 => ⟨S8, .f32⟩
  | 77 => ⟨S128x8, .f32⟩
  | 78 => ⟨S_, .i32⟩
  | 79 => ⟨S4x8x256x512, .f32⟩
  | 80 => ⟨S16x4x128x8x512, .f32⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S1x4x128x8x256, .f32⟩
  | 88 => ⟨S4x128x8x256, .f32⟩
  | 89 => ⟨S_, .i32⟩
  | 90 => ⟨S_, .i32⟩
  | 91 => ⟨S_, .i32⟩
  | 92 => ⟨S_, .i32⟩
  | 93 => ⟨S1x4x128x8x256, .f32⟩
  | 94 => ⟨S4x128x8x256, .f32⟩
  | 95 => ⟨S_, .i32⟩
  | 96 => ⟨S_, .i32⟩
  | 97 => ⟨S_, .i32⟩
  | 98 => ⟨S_, .i32⟩
  | 99 => ⟨S1x4x128x8x512, .f32⟩
  | 100 => ⟨S4x128x8x512, .f32⟩
  | 101 => ⟨S4x8x128x128, .f32⟩
  | 102 => ⟨S1x8x128x128, .f32⟩
  | 103 => ⟨S4x8x128x128, .f32⟩
  | 104 => ⟨S4x8x128x128, .f32⟩
  | 105 => ⟨S4x8x512x128, .f32⟩
  | 106 => ⟨S4x128x8x512, .f32⟩
  | 107 => ⟨S128x8x1, .f32⟩
  | 108 => ⟨S1x128x8x1, .f32⟩
  | 109 => ⟨S4x128x8x256, .f32⟩
  | 110 => ⟨S4x128x8x256, .f32⟩
  | 111 => ⟨S4x8x512x128, .f32⟩
  | 112 => ⟨S4x128x8x512, .f32⟩
  | 113 => ⟨S4x128x8x512, .f32⟩
  | 114 => ⟨S8x1x1, .f32⟩
  | 115 => ⟨S1x8x1x1, .f32⟩
  | 116 => ⟨S4x8x256x512, .f32⟩
  | 117 => ⟨S4x8x256x512, .f32⟩
  | 118 => ⟨S128x8x1, .f32⟩
  | 119 => ⟨S1x128x8x1, .f32⟩
  | 120 => ⟨S4x128x8x256, .f32⟩
  | 121 => ⟨S4x128x8x256, .f32⟩
  | 122 => ⟨S4x8x256x512, .f32⟩
  | 123 => ⟨S4x8x256x512, .f32⟩
  | 124 => ⟨S1x4x128x8x512, .f32⟩
  | 125 => ⟨S_, .i32⟩
  | 126 => ⟨S_, .i32⟩
  | 127 => ⟨S_, .i32⟩
  | _ => ⟨S4x2048x8x256, .f32⟩

abbrev hbmTy0_1 (i : Nat) : BufTy := match i % 128 with
  | 0 => ⟨S_, .i32⟩
  | 1 => ⟨S16x4x128x8x512, .f32⟩
  | 2 => ⟨S_, .i32⟩
  | 3 => ⟨S_, .i32⟩
  | 4 => ⟨S4x16x128x8x512, .f32⟩
  | 5 => ⟨S4x2048x8x512, .f32⟩
  | 6 => ⟨S4x2048x8x512, .f32⟩
  | 7 => ⟨S_, .f32⟩
  | 8 => ⟨S4x2048x8, .f32⟩
  | 9 => ⟨S4x2048x8x1, .f32⟩
  | 10 => ⟨S_, .f32⟩
  | 11 => ⟨S4x2048x8x1, .f32⟩
  | 12 => ⟨S4x2048x8x1, .f32⟩
  | 13 => ⟨S_, .f32⟩
  | 14 => ⟨S4x2048x8x1, .f32⟩
  | 15 => ⟨S4x2048x8x1, .f32⟩
  | 16 => ⟨S4x2048x8x1, .f32⟩
  | 17 => ⟨S4x2048x8x512, .f32⟩
  | 18 => ⟨S4x2048x8x512, .f32⟩
  | 19 => ⟨S4x2048x8x512, .f32⟩
  | 20 => ⟨S4x2048x8x512, .f32⟩
  | 21 => ⟨S4x2048x8x512, .f32⟩
  | 22 => ⟨S_, .f32⟩
  | 23 => ⟨S4x2048x8x512, .f32⟩
  | 24 => ⟨S4x2048x8x512, .f32⟩
  | 25 => ⟨S_, .f32⟩
  | 26 => ⟨S4x2048x8x512, .f32⟩
  | 27 => ⟨S4x2048x8x512, .f32⟩
  | 28 => ⟨S4x2048x8x512, .f32⟩
  | 29 => ⟨S4x2048x8x512, .f32⟩
  | 30 => ⟨S8192x4096, .f32⟩
  | 31 => ⟨S8192x4096, .bf16⟩
  | _ => ⟨S4x2048x8x256, .f32⟩

abbrev hbmTy (i : Nat) : BufTy := match i / 128 with
  | 0 => hbmTy0_0 i
  | 1 => hbmTy0_1 i
  | _ => ⟨S4x2048x8x256, .f32⟩

abbrev bufTy : (tb : Table) → Fin (tcTables nBuf tb) → BufTy
  | .hbm, ⟨i, _⟩ => hbmTy i
  | _, _ => ⟨S4x2048x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_c : Ref sig .tc := ⟨.hbm, 70, rfl⟩
abbrev main_v53_0 : Ref sig .tc := ⟨.hbm, 71, rfl⟩
abbrev main_v53_1 : Ref sig .tc := ⟨.hbm, 72, rfl⟩
abbrev main_v53_2 : Ref sig .tc := ⟨.hbm, 73, rfl⟩
abbrev main_v53_3 : Ref sig .tc := ⟨.hbm, 74, rfl⟩
abbrev main_v53_4 : Ref sig .tc := ⟨.hbm, 75, rfl⟩
abbrev main_v53_5 : Ref sig .tc := ⟨.hbm, 76, rfl⟩
abbrev main_v53_6 : Ref sig .tc := ⟨.hbm, 77, rfl⟩
abbrev main_v53_7 : Ref sig .tc := ⟨.hbm, 78, rfl⟩
abbrev main_v53_8 : Ref sig .tc := ⟨.hbm, 79, rfl⟩
abbrev main_v53_9 : Ref sig .tc := ⟨.hbm, 80, rfl⟩
abbrev main_while0c_c_21 : Ref sig .tc := ⟨.hbm, 81, rfl⟩
abbrev main_while0c_v71 : Ref sig .tc := ⟨.hbm, 82, rfl⟩
abbrev main_while0b_call1_c : Ref sig .tc := ⟨.hbm, 83, rfl⟩
abbrev main_while0b_call1_c_0 : Ref sig .tc := ⟨.hbm, 84, rfl⟩
abbrev main_while0b_call1_c_1 : Ref sig .tc := ⟨.hbm, 85, rfl⟩
abbrev main_while0b_call1_c_2 : Ref sig .tc := ⟨.hbm, 86, rfl⟩
abbrev main_while0b_call1_v0 : Ref sig .tc := ⟨.hbm, 87, rfl⟩
abbrev main_while0b_v71 : Ref sig .tc := ⟨.hbm, 88, rfl⟩
abbrev main_while0b_call2_c : Ref sig .tc := ⟨.hbm, 89, rfl⟩
abbrev main_while0b_call2_c_0 : Ref sig .tc := ⟨.hbm, 90, rfl⟩
abbrev main_while0b_call2_c_1 : Ref sig .tc := ⟨.hbm, 91, rfl⟩
abbrev main_while0b_call2_c_2 : Ref sig .tc := ⟨.hbm, 92, rfl⟩
abbrev main_while0b_call2_v0 : Ref sig .tc := ⟨.hbm, 93, rfl⟩
abbrev main_while0b_v72 : Ref sig .tc := ⟨.hbm, 94, rfl⟩
abbrev main_while0b_call3_c : Ref sig .tc := ⟨.hbm, 95, rfl⟩
abbrev main_while0b_call3_c_0 : Ref sig .tc := ⟨.hbm, 96, rfl⟩
abbrev main_while0b_call3_c_1 : Ref sig .tc := ⟨.hbm, 97, rfl⟩
abbrev main_while0b_call3_c_2 : Ref sig .tc := ⟨.hbm, 98, rfl⟩
abbrev main_while0b_call3_v0 : Ref sig .tc := ⟨.hbm, 99, rfl⟩
abbrev main_while0b_v73 : Ref sig .tc := ⟨.hbm, 100, rfl⟩
abbrev main_while0b_v74 : Ref sig .tc := ⟨.hbm, 101, rfl⟩
abbrev main_while0b_v75 : Ref sig .tc := ⟨.hbm, 102, rfl⟩
abbrev main_while0b_v76 : Ref sig .tc := ⟨.hbm, 103, rfl⟩
abbrev main_while0b_v77 : Ref sig .tc := ⟨.hbm, 104, rfl⟩
abbrev main_while0b_v78 : Ref sig .tc := ⟨.hbm, 105, rfl⟩
abbrev main_while0b_v79 : Ref sig .tc := ⟨.hbm, 106, rfl⟩
abbrev main_while0b_v80 : Ref sig .tc := ⟨.hbm, 107, rfl⟩
abbrev main_while0b_v81 : Ref sig .tc := ⟨.hbm, 108, rfl⟩
abbrev main_while0b_v82 : Ref sig .tc := ⟨.hbm, 109, rfl⟩
abbrev main_while0b_v83 : Ref sig .tc := ⟨.hbm, 110, rfl⟩
abbrev main_while0b_v84 : Ref sig .tc := ⟨.hbm, 111, rfl⟩
abbrev main_while0b_v85 : Ref sig .tc := ⟨.hbm, 112, rfl⟩
abbrev main_while0b_v86 : Ref sig .tc := ⟨.hbm, 113, rfl⟩
abbrev main_while0b_v87 : Ref sig .tc := ⟨.hbm, 114, rfl⟩
abbrev main_while0b_v88 : Ref sig .tc := ⟨.hbm, 115, rfl⟩
abbrev main_while0b_v89 : Ref sig .tc := ⟨.hbm, 116, rfl⟩
abbrev main_while0b_v90 : Ref sig .tc := ⟨.hbm, 117, rfl⟩
abbrev main_while0b_v91 : Ref sig .tc := ⟨.hbm, 118, rfl⟩
abbrev main_while0b_v92 : Ref sig .tc := ⟨.hbm, 119, rfl⟩
abbrev main_while0b_v93 : Ref sig .tc := ⟨.hbm, 120, rfl⟩
abbrev main_while0b_v94 : Ref sig .tc := ⟨.hbm, 121, rfl⟩
abbrev main_while0b_v95 : Ref sig .tc := ⟨.hbm, 122, rfl⟩
abbrev main_while0b_v96 : Ref sig .tc := ⟨.hbm, 123, rfl⟩
abbrev main_while0b_call4_v0 : Ref sig .tc := ⟨.hbm, 124, rfl⟩
abbrev main_while0b_call4_c : Ref sig .tc := ⟨.hbm, 125, rfl⟩
abbrev main_while0b_call4_c_0 : Ref sig .tc := ⟨.hbm, 126, rfl⟩
abbrev main_while0b_call4_c_1 : Ref sig .tc := ⟨.hbm, 127, rfl⟩
abbrev main_while0b_call4_c_2 : Ref sig .tc := ⟨.hbm, 128, rfl⟩
abbrev main_while0b_v97 : Ref sig .tc := ⟨.hbm, 129, rfl⟩
abbrev main_while0b_c_21 : Ref sig .tc := ⟨.hbm, 130, rfl⟩
abbrev main_while0b_v98 : Ref sig .tc := ⟨.hbm, 131, rfl⟩
abbrev main_v54 : Ref sig .tc := ⟨.hbm, 132, rfl⟩
abbrev main_v55 : Ref sig .tc := ⟨.hbm, 133, rfl⟩
abbrev main_v56 : Ref sig .tc := ⟨.hbm, 134, rfl⟩
abbrev main_cst_9 : Ref sig .tc := ⟨.hbm, 135, rfl⟩
abbrev main_v57 : Ref sig .tc := ⟨.hbm, 136, rfl⟩
abbrev main_v58 : Ref sig .tc := ⟨.hbm, 137, rfl⟩
abbrev main_cst_10 : Ref sig .tc := ⟨.hbm, 138, rfl⟩
abbrev main_v59 : Ref sig .tc := ⟨.hbm, 139, rfl⟩
abbrev main_v60 : Ref sig .tc := ⟨.hbm, 140, rfl⟩
abbrev main_cst_11 : Ref sig .tc := ⟨.hbm, 141, rfl⟩
abbrev main_v61 : Ref sig .tc := ⟨.hbm, 142, rfl⟩
abbrev main_v62 : Ref sig .tc := ⟨.hbm, 143, rfl⟩
abbrev main_v63 : Ref sig .tc := ⟨.hbm, 144, rfl⟩
abbrev main_v64 : Ref sig .tc := ⟨.hbm, 145, rfl⟩
abbrev main_v65 : Ref sig .tc := ⟨.hbm, 146, rfl⟩
abbrev main_v66 : Ref sig .tc := ⟨.hbm, 147, rfl⟩
abbrev main_call5_v0 : Ref sig .tc := ⟨.hbm, 148, rfl⟩
abbrev main_call5_v1 : Ref sig .tc := ⟨.hbm, 149, rfl⟩
abbrev main_call5_cst : Ref sig .tc := ⟨.hbm, 150, rfl⟩
abbrev main_call5_v2 : Ref sig .tc := ⟨.hbm, 151, rfl⟩
abbrev main_call5_v3 : Ref sig .tc := ⟨.hbm, 152, rfl⟩
abbrev main_call5_cst_0 : Ref sig .tc := ⟨.hbm, 153, rfl⟩
abbrev main_call5_v4 : Ref sig .tc := ⟨.hbm, 154, rfl⟩
abbrev main_call5_v5 : Ref sig .tc := ⟨.hbm, 155, rfl⟩
abbrev main_v67 : Ref sig .tc := ⟨.hbm, 156, rfl⟩
abbrev main_v68 : Ref sig .tc := ⟨.hbm, 157, rfl⟩
abbrev main_v69 : Ref sig .tc := ⟨.hbm, 158, rfl⟩
abbrev main_v70 : Ref sig .tc := ⟨.hbm, 159, rfl⟩

abbrev nD : Nat := 1
abbrev τ : Topo := Topo.v7x

variable {F : FTy → Type} [FloatOps F]

abbrev main_while0_count : Scf.Loop 32 := ⟨0#32, 16#32, 1#32⟩
-- ==== Merge.lean ====
abbrev S8192x4096 : Shape := ⟨2, ![8192, 4096]⟩
abbrev S8192x2048 : Shape := ⟨2, ![8192, 2048]⟩
abbrev S4096x2048 : Shape := ⟨2, ![4096, 2048]⟩
abbrev S2048x2048 : Shape := ⟨2, ![2048, 2048]⟩
abbrev S8192x8192 : Shape := ⟨2, ![8192, 8192]⟩
abbrev S512x4096 : Shape := ⟨2, ![512, 4096]⟩
abbrev S512x2048 : Shape := ⟨2, ![512, 2048]⟩
abbrev S4096x1024 : Shape := ⟨2, ![4096, 1024]⟩
abbrev S2048x1024 : Shape := ⟨2, ![2048, 1024]⟩
abbrev S512x1024 : Shape := ⟨2, ![512, 1024]⟩

abbrev nBuf : Space → Nat
  | .hbm => 6
  | .vmem => 14
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S4096x2048, .bf16⟩
  | .hbm, ⟨3, _⟩ => ⟨S2048x2048, .bf16⟩
  | .hbm, ⟨4, _⟩ => ⟨S8192x8192, .f32⟩
  | .hbm, ⟨5, _⟩ => ⟨S8192x2048, .bf16⟩
  | .local _ .vmem, ⟨0, _⟩ => ⟨S512x4096, .bf16⟩
  | .local _ .vmem, ⟨1, _⟩ => ⟨S512x4096, .bf16⟩
  | .local _ .vmem, ⟨2, _⟩ => ⟨S512x2048, .bf16⟩
  | .local _ .vmem, ⟨3, _⟩ => ⟨S512x2048, .bf16⟩
  | .local _ .vmem, ⟨4, _⟩ => ⟨S4096x1024, .bf16⟩
  | .local _ .vmem, ⟨5, _⟩ => ⟨S4096x1024, .bf16⟩
  | .local _ .vmem, ⟨6, _⟩ => ⟨S2048x1024, .bf16⟩
  | .local _ .vmem, ⟨7, _⟩ => ⟨S2048x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S8192x4096 : Shape := ⟨2, ![8192, 4096]⟩
abbrev S8192x2048 : Shape := ⟨2, ![8192, 2048]⟩
abbrev S4096x2048 : Shape := ⟨2, ![4096, 2048]⟩
abbrev S2048x2048 : Shape := ⟨2, ![2048, 2048]⟩
abbrev S8192x8192 : Shape := ⟨2, ![8192, 8192]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S4096x2048, .bf16⟩
  | .hbm, ⟨3, _⟩ => ⟨S2048x2048, .bf16⟩
  | .hbm, ⟨4, _⟩ => ⟨S8192x8192, .f32⟩
  | .hbm, ⟨5, _⟩ => ⟨S8192x2048, .f32⟩
  | .hbm, ⟨6, _⟩ => ⟨S8192x2048, .f32⟩
  | .hbm, ⟨7, _⟩ => ⟨S8192x4096, .f32⟩
  | .hbm, ⟨8, _⟩ => ⟨S4096x2048, .f32⟩
  | .hbm, ⟨9, _⟩ => ⟨S8192x2048, .f32⟩
  | .hbm, ⟨10, _⟩ => ⟨S8192x2048, .f32⟩
  | .hbm, ⟨11, _⟩ => ⟨S2048x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Rest.lean ====
abbrev S8192x2048 : Shape := ⟨2, ![8192, 2048]⟩
abbrev S2048x20480 : Shape := ⟨2, ![2048, 20480]⟩
abbrev S65536x1024 : Shape := ⟨2, ![65536, 1024]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2048x20480, .f32⟩
  | .hbm, ⟨2, _⟩ => ⟨S65536x1024, .f32⟩
  | .hbm, ⟨3, _⟩ => ⟨S8192x8192, .f32⟩
  | .hbm, ⟨4, _⟩ => ⟨S65536x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c8_i32 : BitVec 32 := 8#32
  let v1 : BitVec 32 := Scalar.addi c8_i32 arg0
  let c0_i32_0 : BitVec 32 := 0#32
  let v2 : BitVec 32 := Scalar.subi v1 c0_i32_0
  let c0_i32_1 : BitVec 32 := 0#32
  let v3 : BitVec 32 := Scalar.select v0 v2 c0_i32_1
  let c4_i32 : BitVec 32 := 4#32
  let v4 : BitVec 1 := Scalar.cmpi .sge arg0 c4_i32
  let c16_i32 : BitVec 32 := 16#32
  let v5 : BitVec 32 := Scalar.addi c16_i32 arg0
  let c4_i32_2 : BitVec 32 := 4#32
  let v6 : BitVec 32 := Scalar.subi v5 c4_i32_2
  let v7 : BitVec 32 := Scalar.select v4 v6 v3
  let c0_i32_3 : BitVec 32 := 0#32
  let c0_i32_4 : BitVec 32 := 0#32
  ![c0_i32_3.toNat, v7.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c63_i32 : BitVec 32 := 63#32
  let v2 : BitVec 32 := Scalar.minsi v1 c63_i32
  let c0_i32 : BitVec 32 := 0#32
  let c0_i32_0 : BitVec 32 := 0#32
  ![v2.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RestRefIdeal.lean ====
abbrev S8192x2048 : Shape := ⟨2, ![8192, 2048]⟩
abbrev S2048x20480 : Shape := ⟨2, ![2048, 20480]⟩
abbrev S65536x1024 : Shape := ⟨2, ![65536, 1024]⟩
abbrev S8192x20480 : Shape := ⟨2, ![8192, 20480]⟩
abbrev S8192x4096 : Shape := ⟨2, ![8192, 4096]⟩
abbrev S8192x8192 : Shape := ⟨2, ![8192, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x20480, .f32⟩
  | .hbm, ⟨2, _⟩ => ⟨S65536x1024, .f32⟩
  | .hbm, ⟨3, _⟩ => ⟨S8192x2048, .f32⟩
  | .hbm, ⟨4, _⟩ => ⟨S8192x20480, .f32⟩
  | .hbm, ⟨5, _⟩ => ⟨S8192x4096, .f32⟩
  | .hbm, ⟨6, _⟩ => ⟨S8192x2048, .f32⟩
  | .hbm, ⟨7, _⟩ => ⟨S8192x2048, .f32⟩
  | .hbm, ⟨8, _⟩ => ⟨S8192x8192, .f32⟩
  | .hbm, ⟨9, _⟩ => ⟨S65536x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Vals.lean ====
abbrev S8192x2048 : Shape := ⟨2, ![8192, 2048]⟩
abbrev S2048x20480 : Shape := ⟨2, ![2048, 20480]⟩
abbrev S8192x4096 : Shape := ⟨2, ![8192, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x20480, .f32⟩
  | .hbm, ⟨2, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg0 c0_i32
  let c4_i32 : BitVec 32 := 4#32
  let v1 : BitVec 32 := Scalar.addi c4_i32 arg0
  let c0_i32_0 : BitVec 32 := 0#32
  let v2 : BitVec 32 := Scalar.subi v1 c0_i32_0
  let c0_i32_1 : BitVec 32 := 0#32
  let v3 : BitVec 32 := Scalar.select v0 v2 c0_i32_1
  let c0_i32_2 : BitVec 32 := 0#32
  let c0_i32_3 : BitVec 32 := 0#32
  ![c0_i32_2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ValsRefIdeal.lean ====
abbrev S8192x2048 : Shape := ⟨2, ![8192, 2048]⟩
abbrev S2048x20480 : Shape := ⟨2, ![2048, 20480]⟩
abbrev S8192x20480 : Shape := ⟨2, ![8192, 20480]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x20480, .f32⟩
  | .hbm, ⟨2, _⟩ => ⟨S8192x2048, .f32⟩
  | .hbm, ⟨3, _⟩ => ⟨S8192x20480, .f32⟩
  | .hbm, ⟨4, _⟩ => ⟨S8192x4096, .f32⟩
  | .hbm, ⟨5, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Glu.lean ====
abbrev S8192x2048 : Shape := ⟨2, ![8192, 2048]⟩
abbrev S2048x20480 : Shape := ⟨2, ![2048, 20480]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x20480, .f32⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S1024x512, .f32⟩
  | .local _ .vmem, ⟨7, _⟩ => ⟨S1024x512, .f32⟩
  | .local _ .vmem, ⟨8, _⟩ => ⟨S2048x512, .bf16⟩
  | .local _ .vmem, ⟨9, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GluRefIdeal.lean ====
abbrev S8192x2048 : Shape := ⟨2, ![8192, 2048]⟩
abbrev S2048x20480 : Shape := ⟨2, ![2048, 20480]⟩
abbrev S8192x20480 : Shape := ⟨2, ![8192, 20480]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x20480, .f32⟩
  | .hbm, ⟨2, _⟩ => ⟨S8192x2048, .f32⟩
  | .hbm, ⟨3, _⟩ => ⟨S8192x20480, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Outproj.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S2048x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![v0.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutprojRefIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Rope.lean ====
abbrev S8192x2048 : Shape := ⟨2, ![8192, 2048]⟩
abbrev S2048x20480 : Shape := ⟨2, ![2048, 20480]⟩
abbrev S4096x2048 : Shape := ⟨2, ![4096, 2048]⟩
abbrev S2048x2048 : Shape := ⟨2, ![2048, 2048]⟩
abbrev S2048 : Shape := ⟨1, ![2048]⟩
abbrev S_ : Shape := ⟨0, ![]⟩
abbrev S128 : Shape := ⟨1, ![128]⟩
abbrev S2048x1 : Shape := ⟨2, ![2048, 1]⟩
abbrev S1x128 : Shape := ⟨2, ![1, 128]⟩
abbrev S2048x128 : Shape := ⟨2, ![2048, 128]⟩
abbrev S8 : Shape := ⟨1, ![8]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S8x1x1 : Shape := ⟨3, ![8, 1, 1]⟩
abbrev S8x256x256 : Shape := ⟨3, ![8, 256, 256]⟩
abbrev S1x8 : Shape := ⟨2, ![1, 8]⟩
abbrev S256x8 : Shape := ⟨2, ![256, 8]⟩
abbrev S256x8x256 : Shape := ⟨3, ![256, 8, 256]⟩
abbrev S256x2048 : Shape := ⟨2, ![256, 2048]⟩
abbrev S1x2048x1x128 : Shape := ⟨4, ![1, 2048, 1, 128]⟩
abbrev S1x256x1x2048 : Shape := ⟨4, ![1, 256, 1, 2048]⟩
abbrev S8192x4096 : Shape := ⟨2, ![8192, 4096]⟩
abbrev S1024x2048 : Shape := ⟨2, ![1024, 2048]⟩
abbrev S2048x1024 : Shape := ⟨2, ![2048, 1024]⟩
abbrev S1024x128 : Shape := ⟨2, ![1024, 128]⟩
abbrev S256x1024 : Shape := ⟨2, ![256, 1024]⟩
abbrev S128x2048 : Shape := ⟨2, ![128, 2048]⟩
abbrev S64x2048 : Shape := ⟨2, ![64, 2048]⟩
abbrev S1024x1024 : Shape := ⟨2, ![1024, 1024]⟩
abbrev S256x128 : Shape := ⟨2, ![256, 128]⟩

abbrev nBuf : Space → Nat
  | .hbm => 96
  | .vmem => 24
  | .smem => 0
  | _ => 0

abbrev bufTy : (tb : Table) → Fin (tcTables nBuf tb) → BufTy
  | .hbm, ⟨0, _⟩ => ⟨S8192x2048, .bf16⟩
  | .hbm, ⟨1, _⟩ => ⟨S2048x20480, .f32⟩
  | .hbm, ⟨2, _⟩ => ⟨S4096x2048, .f32⟩
  | .hbm, ⟨3, _⟩ => ⟨S2048x2048, .f32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S2048, .f32⟩
  | .hbm, ⟨17, _⟩ => ⟨S2048x1, .f32⟩
  | .hbm, ⟨18, _⟩ => ⟨S1x128, .f32⟩
  | .hbm, ⟨19, _⟩ => ⟨S2048x128, .f32⟩
  | .hbm, ⟨20, _⟩ => ⟨S2048x128, .f32⟩
  | .hbm, ⟨21, _⟩ => ⟨S2048x128, .f32⟩
  | .hbm, ⟨22, _⟩ => ⟨S2048x128, .f32⟩
  | .hbm, ⟨23, _⟩ => ⟨S2048x128, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S8, .f32⟩
  | .hbm, ⟨32, _⟩ => ⟨S8, .f32⟩
  | .hbm, ⟨33, _⟩ => ⟨S8, .f32⟩
  | .hbm, ⟨34, _⟩ => ⟨S256, .f32⟩
  | .hbm, ⟨35, _⟩ => ⟨S256x1, .f32⟩
  | .hbm, ⟨36, _⟩ => ⟨S1x256, .f32⟩
  | .hbm, ⟨37, _⟩ => ⟨S256x256, .f32⟩
  | .hbm, ⟨38, _⟩ => ⟨S256x256, .f32⟩
  | .hbm, ⟨39, _⟩ => ⟨S256x256, .f32⟩
  | .hbm, ⟨40, _⟩ => ⟨S1x256x256, .f32⟩
  | .hbm, ⟨41, _⟩ => ⟨S_, .f32⟩
  | .hbm, ⟨42, _⟩ => ⟨S1x256x256, .f32⟩
  | .hbm, ⟨43, _⟩ => ⟨S1x256x256, .i1⟩
  | .hbm, ⟨44, _⟩ => ⟨S_, .f32⟩
  | .hbm, ⟨45, _⟩ => ⟨S256x256, .f32⟩
  | .hbm, ⟨46, _⟩ => ⟨S256x256, .f32⟩
  | .hbm, ⟨47, _⟩ => ⟨S1x256x256, .f32⟩
  | .hbm, ⟨48, _⟩ => ⟨S8x1x1, .f32⟩
  | .hbm, ⟨49, _⟩ => ⟨S8x256x256, .f32⟩
  | .hbm, ⟨50, _⟩ => ⟨S8x256x256, .f32⟩
  | .hbm, ⟨51, _⟩ => ⟨S8x256x256, .f32⟩
  | .hbm, ⟨52, _⟩ => ⟨S8x256x256, .f32⟩
  | .hbm, ⟨53, _⟩ => ⟨S_, .f32⟩
  | .hbm, ⟨54, _⟩ => ⟨S8x256x256, .i1⟩
  | .hbm, ⟨55, _⟩ => ⟨S8x256x256, .f32⟩
  | .hbm, ⟨56, _⟩ => ⟨S8x256x256, .f32⟩
  | .hbm, ⟨57, _⟩ => ⟨S256x1, .f32⟩
  | .hbm, ⟨58, _⟩ => ⟨S_, .f32⟩
  | .hbm, ⟨59, _⟩ => ⟨S256x1, .f32⟩
  | .hbm, ⟨60, _⟩ => ⟨S256x1, .f32⟩
  | .hbm, ⟨61, _⟩ => ⟨S1x8, .f32⟩
  | .hbm, ⟨62, _⟩ => ⟨S256x8, .f32⟩
  | .hbm, ⟨63, _⟩ => ⟨S256x8, .f32⟩
  | .hbm, ⟨64, _⟩ => ⟨S256x8, .f32⟩
  | .hbm, ⟨65, _⟩ => ⟨S256x8, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S256, .f32⟩
  | .hbm, ⟨70, _⟩ => ⟨S256, .f32⟩
  | .hbm, ⟨71, _⟩ => ⟨S256x1, .f32⟩
  | .hbm, ⟨72, _⟩ => ⟨S1x8, .f32⟩
  | .hbm, ⟨73, _⟩ => ⟨S256x8, .f32⟩
  | .hbm, ⟨74, _⟩ => ⟨S256x8, .f32⟩
  | .hbm, ⟨75, _⟩ => ⟨S256x8, .f32⟩
  | .hbm, ⟨76, _⟩ => ⟨S256x8, .f32⟩
  | .hbm, ⟨77, _⟩ => ⟨S_, .f32⟩
  | .hbm, ⟨78, _⟩ => ⟨S8, .f32⟩
  | .hbm, ⟨79, _⟩ => ⟨S8, .f32⟩
  | .hbm, ⟨80, _⟩ => ⟨S8, .f32⟩
  | .hbm, ⟨81, _⟩ => ⟨S256x8x256, .f32⟩
  | .hbm, ⟨82, _⟩ => ⟨S256x2048, .f32⟩
  | .hbm, ⟨83, _⟩ => ⟨S1x2048x1x128, .f32⟩
  | .hbm, ⟨84, _⟩ => ⟨S1x2048x1x128, .f32⟩
  | .hbm, ⟨85, _⟩ => ⟨S2048x128, .f32⟩
  | .hbm, ⟨86, _⟩ => ⟨S1x2048x1x128, .f32⟩
  | .hbm, ⟨87, _⟩ => ⟨S1x2048x1x128, .f32⟩
  | .hbm, ⟨88, _⟩ => ⟨S2048x128, .f32⟩
  | .hbm, ⟨89, _⟩ => ⟨S1x256x1x2048, .f32⟩
  | .hbm, ⟨90, _⟩ => ⟨S1x256x1x2048, .f32⟩
  | .hbm, ⟨91, _⟩ => ⟨S256x2048, .f32⟩
  | .hbm, ⟨92, _⟩ => ⟨S8192x4096, .bf16⟩
  | .hbm, ⟨93, _⟩ => ⟨S8192x2048, .bf16⟩
  | .hbm, ⟨94, _⟩ => ⟨S4096x2048, .bf16⟩
  | .hbm, ⟨95, _⟩ => ⟨S2048x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .f32⟩
  | .local _ .vmem, ⟨3, _⟩ => ⟨S2048x1024, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S256x1024, .f32⟩
  | .local _ .vmem, ⟨9, _⟩ => ⟨S256x1024, .f32⟩
  | .local _ .vmem, ⟨10, _⟩ => ⟨S128x2048, .f32⟩
  | .local _ .vmem, ⟨11, _⟩ => ⟨S128x2048, .f32⟩
  | .local _ .vmem, ⟨12, _⟩ => ⟨S64x2048, .f32⟩
  | .local _ .vmem, ⟨13, _⟩ => ⟨S64x2048, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S128x2048, .bf16⟩
  | .local _ .vmem, ⟨19, _⟩ => ⟨S128x2048, .bf16⟩
  | .local _ .vmem, ⟨20, _⟩ => ⟨S64x2048, .bf16⟩
  | .local _ .vmem, ⟨21, _⟩ => ⟨S64x2048, .bf16⟩
  | .local _ .vmem, ⟨22, _⟩ => ⟨S2048x1024, .bf16⟩
  | .local _ .vmem, ⟨23, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_cst_4 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_call0_v0 : Ref sig .tc := ⟨.hbm, 54, rfl⟩
abbrev main_call0_v1 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_7 : Ref sig .tc := ⟨.hbm, 66, rfl⟩
abbrev main_cst_8 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_9 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74_0 : Ref sig .tc := ⟨.hbm, 92, rfl⟩
abbrev main_v74_1 : Ref sig .tc := ⟨.hbm, 93, rfl⟩
abbrev main_v74_2 : Ref sig .tc := ⟨.hbm, 94, rfl⟩
abbrev main_v74_3 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg0 : BitVec 32 := BitVec.ofNat 32 (i 0).val
  let c2_i32_31 : BitVec 32 := 2#32
  let v58 : BitVec 1 := Scalar.cmpi .sge arg0 c2_i32_31
  let v59 : BitVec 32 := Scalar.extui v58
  let c0_i32_32 : BitVec 32 := 0#32
  let v60 : BitVec 1 := Scalar.cmpi .ne v59 c0_i32_32
  v60

def k0_cond3 (i : grid0.Coords) : BitVec 1 :=
  let arg0 : BitVec 32 := BitVec.ofNat 32 (i 0).val
  let c2_i32_55 : BitVec 32 := 2#32
  let v102 : BitVec 1 := Scalar.cmpi .sge arg0 c2_i32_55
  let v103 : BitVec 32 := Scalar.extui v102
  let c0_i32_56 : BitVec 32 := 0#32
  let v104 : BitVec 1 := Scalar.cmpi .ne v103 c0_i32_56
  v104

def k0_cond4 (i : grid0.Coords) : BitVec 1 :=
  let arg0 : BitVec 32 := BitVec.ofNat 32 (i 0).val
  let c2_i32_79 : BitVec 32 := 2#32
  let v146 : BitVec 1 := Scalar.cmpi .sge arg0 c2_i32_79
  let v147 : BitVec 32 := Scalar.extui v146
  let c0_i32_80 : BitVec 32 := 0#32
  let v148 : BitVec 1 := Scalar.cmpi .ne v147 c0_i32_80
  v148

def k0_cond5 (i : grid0.Coords) : BitVec 1 :=
  let arg0 : BitVec 32 := BitVec.ofNat 32 (i 0).val
  let c2_i32_103 : BitVec 32 := 2#32
  let v190 : BitVec 1 := Scalar.cmpi .sge arg0 c2_i32_103
  let v191 : BitVec 32 := Scalar.extui v190
  let c0_i32_104 : BitVec 32 := 0#32
  let v192 : BitVec 1 := Scalar.cmpi .ne v191 c0_i32_104
  v192

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg0 c2_i32
  let c0_i32 : BitVec 32 := 0#32
  let v1 : BitVec 32 := Scalar.select v0 arg1 c0_i32
  let c2_i32_0 : BitVec 32 := 2#32
  let v2 : BitVec 32 := Scalar.subi arg0 c2_i32_0
  let c0_i32_1 : BitVec 32 := 0#32
  let v3 : BitVec 32 := Scalar.maxsi v2 c0_i32_1
  let c0_i32_2 : BitVec 32 := 0#32
  ![v1.toNat, v3.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RopeRefIdeal.lean ====
abbrev S8192x2048 : Shape := ⟨2, ![8192, 2048]⟩
abbrev S2048x20480 : Shape := ⟨2, ![2048, 20480]⟩
abbrev S4096x2048 : Shape := ⟨2, ![4096, 2048]⟩
abbrev S2048x2048 : Shape := ⟨2, ![2048, 2048]⟩
abbrev S8192x20480 : Shape := ⟨2, ![8192, 20480]⟩
abbrev S2048 : Shape := ⟨1, ![2048]⟩
abbrev S4x2048x8x256 : Shape := ⟨4, ![4, 2048, 8, 256]⟩
abbrev S128 : Shape := ⟨1, ![128]⟩
abbrev S_ : Shape := ⟨0, ![]⟩
abbrev S2048x1 : Shape := ⟨2, ![2048, 1]⟩
abbrev S1x128 : Shape := ⟨2, ![1, 128]⟩
abbrev S2048x128 : Shape := ⟨2, ![2048, 128]⟩
abbrev S1x2048x1x128 : Shape := ⟨4, ![1, 2048, 1, 128]⟩
abbrev S4x2048x8x128 : Shape := ⟨4, ![4, 2048, 8, 128]⟩
abbrev S8 : Shape := ⟨1, ![8]⟩
abbrev S256 : Shape := ⟨1, ![256]⟩
abbrev S256x1 : Shape := ⟨2, ![256, 1]⟩
abbrev S1x8 : Shape := ⟨2, ![1, 8]⟩
abbrev S256x8 : Shape := ⟨2, ![256, 8]⟩
abbrev S4x8x256x8x256 : Shape := ⟨5, ![4, 8, 256, 8, 256]⟩
abbrev S256x8x1 : Shape := ⟨3, ![256, 8, 1]⟩
abbrev S1x1x256x8x1 : Shape := ⟨5, ![1, 1, 256, 8, 1]⟩
abbrev S8192x4096 : Shape := ⟨2, ![8192, 4096]⟩

abbrev nBuf : Space → Nat
  | .hbm => 108
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x20480, .f32⟩
  | .hbm, ⟨2, _⟩ => ⟨S4096x2048, .f32⟩
  | .hbm, ⟨3, _⟩ => ⟨S2048x2048, .f32⟩
  | .hbm, ⟨4, _⟩ => ⟨S8192x2048, .f32⟩
  | .hbm, ⟨5, _⟩ => ⟨S8192x20480, .f32⟩
  | .hbm, ⟨6, _⟩ => ⟨S2048, .i32⟩
  | .hbm, ⟨7, _⟩ => ⟨S2048, .f32⟩
  | .hbm, ⟨8, _⟩ => ⟨S8192x2048, .f32⟩
  | .hbm, ⟨9, _⟩ => ⟨S4x2048x8x256, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S_, .f32⟩
  | .hbm, ⟨16, _⟩ => ⟨S128, .f32⟩
  | .hbm, ⟨17, _⟩ => ⟨S128, .f32⟩
  | .hbm, ⟨18, _⟩ => ⟨S2048x1, .f32⟩
  | .hbm, ⟨19, _⟩ => ⟨S1x128, .f32⟩
  | .hbm, ⟨20, _⟩ => ⟨S2048x128, .f32⟩
  | .hbm, ⟨21, _⟩ => ⟨S2048x128, .f32⟩
  | .hbm, ⟨22, _⟩ => ⟨S2048x128, .f32⟩
  | .hbm, ⟨23, _⟩ => ⟨S2048x128, .f32⟩
  | .hbm, ⟨24, _⟩ => ⟨S1x2048x1x128, .f32⟩
  | .hbm, ⟨25, _⟩ => ⟨S2048x128, .f32⟩
  | .hbm, ⟨26, _⟩ => ⟨S1x2048x1x128, .f32⟩
  | .hbm, ⟨27, _⟩ => ⟨S4x2048x8x128, .f32⟩
  | .hbm, ⟨28, _⟩ => ⟨S4x2048x8x128, .f32⟩
  | .hbm, ⟨29, _⟩ => ⟨S4x2048x8x128, .f32⟩
  | .hbm, ⟨30, _⟩ => ⟨S4x2048x8x128, .f32⟩
  | .hbm, ⟨31, _⟩ => ⟨S4x2048x8x128, .f32⟩
  | .hbm, ⟨32, _⟩ => ⟨S4x2048x8x128, .f32⟩
  | .hbm, ⟨33, _⟩ => ⟨S4x2048x8x128, .f32⟩
  | .hbm, ⟨34, _⟩ => ⟨S4x2048x8x128, .f32⟩
  | .hbm, ⟨35, _⟩ => ⟨S4x2048x8x128, .f32⟩
  | .hbm, ⟨36, _⟩ => ⟨S4x2048x8x128, .f32⟩
  | .hbm, ⟨37, _⟩ => ⟨S4x2048x8x128, .f32⟩
  | .hbm, ⟨38, _⟩ => ⟨S4x2048x8x128, .f32⟩
  | .hbm, ⟨39, _⟩ => ⟨S4x2048x8x256, .f32⟩
  | .hbm, ⟨40, _⟩ => ⟨S8192x2048, .f32⟩
  | .hbm, ⟨41, _⟩ => ⟨S4x2048x8x256, .f32⟩
  | .hbm, ⟨42, _⟩ => ⟨S128, .f32⟩
  | .hbm, ⟨43, _⟩ => ⟨S128, .f32⟩
  | .hbm, ⟨44, _⟩ => ⟨S_, .f32⟩
  | .hbm, ⟨45, _⟩ => ⟨S128, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S2048x1, .f32⟩
  | .hbm, ⟨51, _⟩ => ⟨S1x128, .f32⟩
  | .hbm, ⟨52, _⟩ => ⟨S2048x128, .f32⟩
  | .hbm, ⟨53, _⟩ => ⟨S2048x128, .f32⟩
  | .hbm, ⟨54, _⟩ => ⟨S2048x128, .f32⟩
  | .hbm, ⟨55, _⟩ => ⟨S2048x128, .f32⟩
  | .hbm, ⟨56, _⟩ => ⟨S1x2048x1x128, .f32⟩
  | .hbm, ⟨57, _⟩ => ⟨S2048x128, .f32⟩
  | .hbm, ⟨58, _⟩ => ⟨S1x2048x1x128, .f32⟩
  | .hbm, ⟨59, _⟩ => ⟨S4x2048x8x128, .f32⟩
  | .hbm, ⟨60, _⟩ => ⟨S4x2048x8x128, .f32⟩
  | .hbm, ⟨61, _⟩ => ⟨S4x2048x8x128, .f32⟩
  | .hbm, ⟨62, _⟩ => ⟨S4x2048x8x128, .f32⟩
  | .hbm, ⟨63, _⟩ => ⟨S4x2048x8x128, .f32⟩
  | .hbm, ⟨64, _⟩ => ⟨S4x2048x8x128, .f32⟩
  | .hbm, ⟨65, _⟩ => ⟨S4x2048x8x128, .f32⟩
  | .hbm, ⟨66, _⟩ => ⟨S4x2048x8x128, .f32⟩
  | .hbm, ⟨67, _⟩ => ⟨S4x2048x8x128, .f32⟩
  | .hbm, ⟨68, _⟩ => ⟨S4x2048x8x128, .f32⟩
  | .hbm, ⟨69, _⟩ => ⟨S4x2048x8x128, .f32⟩
  | .hbm, ⟨70, _⟩ => ⟨S4x2048x8x128, .f32⟩
  | .hbm, ⟨71, _⟩ => ⟨S4x2048x8x256, .f32⟩
  | .hbm, ⟨72, _⟩ => ⟨S_, .f32⟩
  | .hbm, ⟨73, _⟩ => ⟨S4x2048x8x256, .f32⟩
  | .hbm, ⟨74, _⟩ => ⟨S4x2048x8x256, .f32⟩
  | .hbm, ⟨75, _⟩ => ⟨S8, .f32⟩
  | .hbm, ⟨76, _⟩ => ⟨S_, .f32⟩
  | .hbm, ⟨77, _⟩ => ⟨S8, .f32⟩
  | .hbm, ⟨78, _⟩ => ⟨S8, .f32⟩
  | .hbm, ⟨79, _⟩ => ⟨S_, .f32⟩
  | .hbm, ⟨80, _⟩ => ⟨S8, .f32⟩
  | .hbm, ⟨81, _⟩ => ⟨S8, .f32⟩
  | .hbm, ⟨82, _⟩ => ⟨S8, .f32⟩
  | .hbm, ⟨83, _⟩ => ⟨S8, .f32⟩
  | .hbm, ⟨84, _⟩ => ⟨S8, .f32⟩
  | .hbm, ⟨85, _⟩ => ⟨S256, .f32⟩
  | .hbm, ⟨86, _⟩ => ⟨S_, .f32⟩
  | .hbm, ⟨87, _⟩ => ⟨S256, .f32⟩
  | .hbm, ⟨88, _⟩ => ⟨S256, .f32⟩
  | .hbm, ⟨89, _⟩ => ⟨S256x1, .f32⟩
  | .hbm, ⟨90, _⟩ => ⟨S1x8, .f32⟩
  | .hbm, ⟨91, _⟩ => ⟨S256x8, .f32⟩
  | .hbm, ⟨92, _⟩ => ⟨S256x8, .f32⟩
  | .hbm, ⟨93, _⟩ => ⟨S256x8, .f32⟩
  | .hbm, ⟨94, _⟩ => ⟨S256x8, .f32⟩
  | .hbm, ⟨95, _⟩ => ⟨S4x8x256x8x256, .f32⟩
  | .hbm, ⟨96, _⟩ => ⟨S256x8x1, .f32⟩
  | .hbm, ⟨97, _⟩ => ⟨S1x1x256x8x1, .f32⟩
  | .hbm, ⟨98, _⟩ => ⟨S4x8x256x8x256, .f32⟩
  | .hbm, ⟨99, _⟩ => ⟨S4x8x256x8x256, .f32⟩
  | .hbm, ⟨100, _⟩ => ⟨S8192x2048, .f32⟩
  | .hbm, ⟨101, _⟩ => ⟨S8192x2048, .f32⟩
  | .hbm, ⟨102, _⟩ => ⟨S8192x4096, .f32⟩
  | .hbm, ⟨103, _⟩ => ⟨S8192x4096, .bf16⟩
  | .hbm, ⟨104, _⟩ => ⟨S8192x2048, .f32⟩
  | .hbm, ⟨105, _⟩ => ⟨S8192x2048, .bf16⟩
  | .hbm, ⟨106, _⟩ => ⟨S4096x2048, .bf16⟩
  | .hbm, ⟨107, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_1 : Ref sig .tc := ⟨.hbm, 44, rfl⟩
abbrev main_v38 : Ref sig .tc := ⟨.hbm, 45, rfl⟩
abbrev main_v39 : Ref sig .tc := ⟨.hbm, 46, rfl⟩
abbrev main_cst_2 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_cst_3 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_cst_4 : Ref sig .tc := ⟨.hbm, 76, rfl⟩
abbrev main_v67 : Ref sig .tc := ⟨.hbm, 77, rfl⟩
abbrev main_v68 : Ref sig .tc := ⟨.hbm, 78, rfl⟩
abbrev main_cst_5 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_cst_6 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩

abbrev nD : Nat := 1
abbrev τ : Topo := Topo.v7x

variable {F : FTy → Type} [FloatOps F]
-- ==== Proof.MergeValue.lean ====
module

public import proofs.«01_k».proof.Proof.Gen.MergeIdeal.Value
public import proofs.«01_k».proof.Proof.Gen.MergeRefIdeal.Run
public import Idealize.ShloMosaic.Lib.Pipeline.ValueKit
public import Idealize.ShloMosaic.Lib.Pointwise
public import Idealize.ShloMosaic.Lib.Pipeline.ReadBack

/-! The merged rows of the two branches after the kernel's grid. -/

set_option maxRecDepth 16384

@[expose] public section

noncomputable section

namespace Cert.MergeIdeal.Value

open Idealize.ShloMosaic Idealize.ShloMosaic.TcCoe Idealize.SL.Sem
open Cert.MergeIdeal Cert.MergeIdeal.Gen

variable (m : (ℓ : Loc nD τ sig) → Buf (Elt Ideal) ℓ)

/-- The merged rows of the arguments: each branch's product with its output weights under the logistic of its gate, added. -/
abbrev merged (a0 : FVec Ideal S8192x4096 .bf16) (a1 : FVec Ideal S8192x2048 .bf16) (a2 : FVec Ideal S4096x2048 .bf16)
    (a3 : FVec Ideal S2048x2048 .bf16) (a4 : FVec Ideal S8192x8192 .f32) : FVec Ideal S8192x2048 .bf16 :=
  truncf .bf16 (addf (mulf (Host.divf (broadcastInDim Cert.MergeRefIdeal.S8192x2048 ![] Cert.MergeRefIdeal.Gen.bcast_S_S8192x2048 (constant Cert.MergeRefIdeal.S_ .f32 0x3F800000#32)) (addf (broadcastInDim Cert.MergeRefIdeal.S8192x2048 ![] Cert.MergeRefIdeal.Gen.bcast_S_S8192x2048 (constant Cert.MergeRefIdeal.S_ .f32 0x3F800000#32)) (Host.exp (Host.negf (extractStridedSlice Cert.MergeRefIdeal.S8192x2048 ![0, 4096] a4 Cert.MergeRefIdeal.Gen.slices_S8192x8192_S8192x2048_0_4096))))) (Host.dotGeneral Cert.MergeRefIdeal.dot_S8192x4096_S4096x2048_S8192x2048_1_0_0_1_n_n none (extf .f32 a0 Cert.MergeRefIdeal.Gen.bitsLt_bf16_f32) (extf .f32 a2 Cert.MergeRefIdeal.Gen.bitsLt_bf16_f32))) (mulf (Host.divf (broadcastInDim Cert.MergeRefIdeal.S8192x2048 ![] Cert.MergeRefIdeal.Gen.bcast_S_S8192x2048 (constant Cert.MergeRefIdeal.S_ .f32 0x3F800000#32)) (addf (broadcastInDim Cert.MergeRefIdeal.S8192x2048 ![] Cert.MergeRefIdeal.Gen.bcast_S_S8192x2048 (constant Cert.MergeRefIdeal.S_ .f32 0x3F800000#32)) (Host.exp (Host.negf (extractStridedSlice Cert.MergeRefIdeal.S8192x2048 ![0, 6144] a4 Cert.MergeRefIdeal.Gen.slices_S8192x8192_S8192x2048_0_6144))))) (Host.dotGeneral Cert.MergeRefIdeal.dot_S8192x2048_S2048x2048_S8192x2048_1_0_0_1_n_n none (extf .f32 a1 Cert.MergeRefIdeal.Gen.bitsLt_bf16_f32) (extf .f32 a3 Cert.MergeRefIdeal.Gen.bitsLt_bf16_f32)))) Cert.MergeRefIdeal.Gen.bitsLt_bf16_f32

/-- The block each window reads or writes at a grid point. -/
theorem idx : ∀ t : Fin cfg0.N, win0_0.index t = ![t.val % 16, 0]
    ∧ win0_1.index t = ![t.val % 16, 0]
    ∧ win0_2.index t = ![0, t.val / 16]
    ∧ win0_3.index t = ![0, t.val / 16]
    ∧ win0_4.index t = ![t.val % 16, 4 + (t.val / 16)]
    ∧ win0_5.index t = ![t.val % 16, 6 + (t.val / 16)]
    ∧ win0_6.index t = ![t.val % 16, t.val / 16] :=
  (by decide +kernel : ∀ t : Fin grid0.N, _)

/-- What one grid point stores is the merged rows at the place its block sits. -/
theorem point (c : Dev nD) (t : Fin cfg0.N) (y : S512x1024.Idx) :
    k0_pay1 (iblk m c 0 t) (iblk m c 2 t) (iblk m c 1 t) (iblk m c 3 t) (iblk m c 4 t) (iblk m c 5 t) y
      = merged (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 6).blk t).view.emb y) := by
  pointwise [k0_pay1, merged, Ideal.logistic]
  blk_point [iblk, V, idx t]

/-- The result array after the grid is the merged rows of the arguments. -/
theorem final (c : Dev nD) : (dats m 0 c).arrAt 6 (cfgs 0).N
    = merged (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]
  frame_out
  exact point m c t y

end Cert.MergeIdeal.Value
-- ==== Proof.RestValue.lean ====
module

public import proofs.«01_k».proof.Proof.Gen.RestIdeal.Value
public import proofs.«01_k».proof.Proof.Gen.RestRefIdeal.Run
public import Idealize.ShloMosaic.Lib.Pipeline.ValueKit
public import Idealize.ShloMosaic.Lib.Pointwise
public import Idealize.ShloMosaic.Lib.Pipeline.ReadBack

/-! The gates of the input projection and the cast weights after the kernel's grid. -/

set_option maxRecDepth 16384

@[expose] public section

noncomputable section

namespace Cert.RestIdeal.Value

open Idealize.ShloMosaic Idealize.ShloMosaic.TcCoe Idealize.SL.Sem
open Cert.RestIdeal Cert.RestIdeal.Gen

variable (m : (ℓ : Loc nD τ sig) → Buf (Elt Ideal) ℓ)

/-- The gates: the rows times the three groups of columns of the weights that hold them. -/
abbrev gates (a0 : FVec Ideal S8192x2048 .bf16) (a1 : FVec Ideal S2048x20480 .f32) : FVec Ideal S8192x8192 .f32 :=
  (concatenate Cert.RestRefIdeal.S8192x8192 1 [⟨Cert.RestRefIdeal.S8192x4096, ((extractStridedSlice Cert.RestRefIdeal.S8192x4096 ![0, 8192] (Host.dotGeneral Cert.RestRefIdeal.dot_S8192x2048_S2048x20480_S8192x20480_1_0_0_1_n_n none (extf .f32 a0 Cert.RestRefIdeal.Gen.bitsLt_bf16_f32) a1) Cert.RestRefIdeal.Gen.slices_S8192x20480_S8192x4096_0_8192) : (⟨Cert.RestRefIdeal.S8192x4096, .f32⟩ : BufTy).Contents (Elt Ideal))⟩, ⟨Cert.RestRefIdeal.S8192x2048, ((extractStridedSlice Cert.RestRefIdeal.S8192x2048 ![0, 16384] (Host.dotGeneral Cert.RestRefIdeal.dot_S8192x2048_S2048x20480_S8192x20480_1_0_0_1_n_n none (extf .f32 a0 Cert.RestRefIdeal.Gen.bitsLt_bf16_f32) a1) Cert.RestRefIdeal.Gen.slices_S8192x20480_S8192x2048_0_16384) : (⟨Cert.RestRefIdeal.S8192x2048, .f32⟩ : BufTy).Contents (Elt Ideal))⟩, ⟨Cert.RestRefIdeal.S8192x2048, ((extractStridedSlice Cert.RestRefIdeal.S8192x2048 ![0, 18432] (Host.dotGeneral Cert.RestRefIdeal.dot_S8192x2048_S2048x20480_S8192x20480_1_0_0_1_n_n none (extf .f32 a0 Cert.RestRefIdeal.Gen.bitsLt_bf16_f32) a1) Cert.RestRefIdeal.Gen.slices_S8192x20480_S8192x2048_0_18432) : (⟨Cert.RestRefIdeal.S8192x2048, .f32⟩ : BufTy).Contents (Elt Ideal))⟩] Cert.RestRefIdeal.Gen.concatenates_S8192x4096_S8192x2048_S8192x2048_S8192x8192_d1 : (⟨Cert.RestRefIdeal.S8192x8192, .f32⟩ : BufTy).Contents (Elt Ideal))

/-- The tile of weights that a tile of gates comes from: the second group of columns starts four tiles further on. -/
def tile (j : Nat) : Nat := if j < 4 then 8 + j else 12 + j

/-- The block each window reads or writes at a grid point. -/
theorem idx : ∀ t : Fin cfg0.N, win0_0.index t = ![t.val % 8, 0]
    ∧ win0_1.index t = ![0, tile (t.val / 8)]
    ∧ win0_2.index t = ![t.val, 0]
    ∧ win0_3.index t = ![t.val % 8, t.val / 8]
    ∧ win0_4.index t = ![t.val, 0] :=
  (by decide +kernel : ∀ t : Fin grid0.N, _)

/-- A tile of gates comes from a tile inside the weights. -/
theorem tile_le (n : Nat) (h : n < 64) : tile (n / 8) ≤ 19 := by
  unfold tile
  split <;> omega

/-- The weights of the arguments, read at a row and a column. -/
def weight (c : Dev nD) (k : Fin 2048) (j : Fin 20480) : EReal :=
  (m ((c : Thread nD τ).loc main_arg1) : FVec Ideal S2048x20480 .f32) (ValueIdx.ix2 k j)

/-- The carried tile after a point holds the weights of the point's columns. -/
theorem carried (c : Dev nD) : ∀ (n : ℕ) (hn : n < cfg0.N) (y : S2048x1024.Idx),
    (outsAt0 m c n hn).2.2 y = weight m c ⟨(y 0).val, (y 0).isLt⟩
      ⟨tile (n / 8) * 1024 + (y 1).val, by
        have h1 : (y 1).val < 1024 := (y 1).isLt
        have h2 := tile_le n (lt_of_lt_of_eq hn (show cfg0.N = 64 from N_0))
        omega⟩ := by
  intro n
  induction n using Nat.strong_induction_on with
  | _ n ih =>
    intro hn y
    by_cases h0 : n % 8 = 0
    · rw [outsAt0_A m c ⟨n, hn⟩ h0]
      frame_out
      pointwise [k0_pay1, weight]
      blk_point [iblk, V, idx ⟨n, hn⟩]
    · rw [outsAt0_B m c ⟨n, hn⟩ h0]
      dsimp only [sout0_B_0]
      rw [ih (n - 1) (by omega) (Nat.lt_of_le_of_lt (Nat.sub_le _ _) hn) y]
      have e : (n - 1) / 8 = n / 8 := by omega
      simp only [e]

/-- The cast weights. -/
abbrev castw (a2 : FVec Ideal S65536x1024 .f32) : FVec Ideal S65536x1024 .bf16 := truncf .bf16 a2 bitsLt_bf16_f32

/-- The second result array after the grid is the expert weights of the arguments, cast. -/
theorem final_cast (c : Dev nD) : (dats m 0 c).arrAt 4 (cfgs 0).N
    = castw (m ((c : Thread nD τ).loc main_arg2)) := by
  refine (dats m 0 c).arrAt_eq_of_covers 4 _ (by decide +kernel) fun t _ y => ?_
  blk_simp
  rw [after0_4]
  by_cases h : t.val % 8 = 0
  · rw [outsAt0_A m c t h]
    frame_out
    pointwise [k0_pay3, castw]
    blk_point [iblk, V, idx t]
  · rw [outsAt0_B m c t h]
    frame_out
    pointwise [k0_pay3, castw]
    blk_point [iblk, V, idx t]

/-- The first result array after the grid is the gates of the arguments. -/
theorem final (c : Dev nD) : (dats m 0 c).arrAt 3 (cfgs 0).N
    = gates (m ((c : Thread nD τ).loc main_arg0)) (m ((c : Thread nD τ).loc main_arg1)) := by
  refine (dats m 0 c).arrAt_eq_of_covers 3 _ (by decide +kernel) fun t _ y => ?_
  blk_simp
  rw [after0_3]
  have e1 : (((View.whole main_v0_0).slice (win0_3.rect t)).emb y 1).val = t.val / 8 * 1024 + (y 1).val := by
    blk_simp [idx t]
  by_cases h : t.val % 8 = 0
  · rw [outsAt0_A m c t h]
    frame_out
    pointwise [k0_pay1, k0_pay2, gates]
    blk_point [iblk, V, idx t]
    all_goals
      unfold tile
      split <;> omega
  · rw [outsAt0_B m c t h]
    frame_out
    pointwise [k0_pay1, k0_pay2, gates]
    blk_point [iblk, V, idx t]
    all_goals
      refine Eq.symm ((congrFun (read_unread_whole cc0_scratch0 _ _) _).trans ((carried m c (t.val - 1) _ _).trans ?_))
      unfold weight
      refine congrArg (m ((c : Thread nD τ).loc main_arg1) : FVec Ideal S2048x20480 .f32) ?_
      refine congrArg (ValueIdx.ix2 _) (Fin.ext ?_)
      show tile ((t.val - 1) / 8) * 1024 + (y 1).val = _
      have e : (t.val - 1) / 8 = t.val / 8 := by omega
      rw [e]
      unfold tile
      split <;> dsimp only <;> omega

end Cert.RestIdeal.Value
-- ==== Proof.ValsValue.lean ====
module

public import proofs.«01_k».proof.Proof.Gen.ValsIdeal.Value
public import proofs.«01_k».proof.Proof.Gen.ValsRefIdeal.Run
public import Idealize.ShloMosaic.Lib.Pipeline.ValueKit
public import Idealize.ShloMosaic.Lib.Pointwise
public import Idealize.ShloMosaic.Lib.Pipeline.ReadBack

/-! The values of the input projection after the kernel's grid. -/

set_option maxRecDepth 16384

@[expose] public section

noncomputable section

namespace Cert.ValsIdeal.Value

open Idealize.ShloMosaic Idealize.ShloMosaic.TcCoe Idealize.SL.Sem
open Cert.ValsIdeal Cert.ValsIdeal.Gen

variable (m : (ℓ : Loc nD τ sig) → Buf (Elt Ideal) ℓ)

/-- The values: the rows times the columns of the weights that hold them. -/
abbrev values (a0 : FVec Ideal S8192x2048 .bf16) (a1 : FVec Ideal S2048x20480 .f32) : FVec Ideal S8192x4096 .bf16 :=
  truncf .bf16 (extractStridedSlice Cert.ValsRefIdeal.S8192x4096 ![0, 4096] (Host.dotGeneral Cert.ValsRefIdeal.dot_S8192x2048_S2048x20480_S8192x20480_1_0_0_1_n_n none (extf .f32 a0 Cert.ValsRefIdeal.Gen.bitsLt_bf16_f32) a1) Cert.ValsRefIdeal.Gen.slices_S8192x20480_S8192x4096_0_4096) Cert.ValsRefIdeal.Gen.bitsLt_bf16_f32

/-- The block each window reads or writes at a grid point. -/
theorem idx : ∀ t : Fin cfg0.N, win0_0.index t = ![t.val % 8, 0]
    ∧ win0_1.index t = ![0, 4 + t.val / 8]
    ∧ win0_2.index t = ![t.val % 8, t.val / 8] :=
  (by decide +kernel : ∀ t : Fin grid0.N, _)

/-- The weights of the arguments, read at a row and a column. -/
def weight (c : Dev nD) (k : Fin 2048) (j : Fin 20480) : EReal :=
  (m ((c : Thread nD τ).loc main_arg1) : FVec Ideal S2048x20480 .f32) (ValueIdx.ix2 k j)

/-- The carried tile after a point holds the weights of the point's columns. -/
theorem carried (c : Dev nD) : ∀ (n : ℕ) (hn : n < cfg0.N) (y : S2048x1024.Idx),
    (outsAt0 m c n hn).2 y = weight m c ⟨(y 0).val, (y 0).isLt⟩
      ⟨4096 + n / 8 * 1024 + (y 1).val, by
        have h1 : (y 1).val < 1024 := (y 1).isLt
        have h2 : n < 32 := lt_of_lt_of_eq hn (show cfg0.N = 32 from N_0)
        omega⟩ := by
  intro n
  induction n using Nat.strong_induction_on with
  | _ n ih =>
    intro hn y
    by_cases h0 : n % 8 = 0
    · rw [outsAt0_A m c ⟨n, hn⟩ h0]
      frame_out
      pointwise [k0_pay1, weight]
      blk_point [iblk, V, idx ⟨n, hn⟩]
    · rw [outsAt0_B m c ⟨n, hn⟩ h0]
      dsimp only [sout0_B_0]
      rw [ih (n - 1) (by omega) (Nat.lt_of_le_of_lt (Nat.sub_le _ _) hn) y]
      have e : (n - 1) / 8 = n / 8 := by omega
      simp only [e]

/-- The result array after the grid is the values of the arguments. -/
theorem final (c : Dev nD) : (dats m 0 c).arrAt 2 (cfgs 0).N
    = values (m ((c : Thread nD τ).loc main_arg0)) (m ((c : Thread nD τ).loc main_arg1)) := by
  refine (dats m 0 c).arrAt_eq_of_covers 2 _ (by decide +kernel) fun t _ y => ?_
  blk_simp
  rw [after0_2]
  by_cases h : t.val % 8 = 0
  · rw [outsAt0_A m c t h]
    frame_out
    pointwise [k0_pay1, k0_pay2, values]
    blk_point [iblk, V, idx t]
  · rw [outsAt0_B m c t h]
    frame_out
    pointwise [k0_pay1, k0_pay2, values]
    blk_point [iblk, V, idx t]
    have e : (t.val - 1) / 8 = t.val / 8 := by omega
    refine (congrFun (read_unread_whole cc0_scratch0 _ _) _).trans ?_
    refine (carried m c (t.val - 1) _ _).trans ?_
    simp only [weight, e, Nat.add_assoc]
    rfl

end Cert.ValsIdeal.Value
-- ==== Proof.GluValue.lean ====
module

public import proofs.«01_k».proof.Proof.Gen.GluIdeal.Value
public import proofs.«01_k».proof.Proof.Gen.GluRefIdeal.Run
public import Idealize.ShloMosaic.Lib.Pipeline.ValueKit
public import Idealize.ShloMosaic.Lib.Pointwise
public import Idealize.ShloMosaic.Lib.Pipeline.ReadBack

/-! The gated linear unit of the input projection after the kernel's grid. -/

set_option maxRecDepth 16384

@[expose] public section

noncomputable section

namespace Cert.GluIdeal.Value

open Idealize.ShloMosaic Idealize.ShloMosaic.TcCoe Idealize.SL.Sem
open Cert.GluIdeal Cert.GluIdeal.Gen

variable (m : (ℓ : Loc nD τ sig) → Buf (Elt Ideal) ℓ)

/-- The gated linear unit: one half of its columns' products under the logistic of the other half's. -/
abbrev glu (a0 : FVec Ideal S8192x2048 .bf16) (a1 : FVec Ideal S2048x20480 .f32) : FVec Ideal S8192x2048 .f32 :=
  mulf (extractStridedSlice Cert.GluRefIdeal.S8192x2048 ![0, 12288] (Host.dotGeneral Cert.GluRefIdeal.dot_S8192x2048_S2048x20480_S8192x20480_1_0_0_1_n_n none (extf .f32 a0 Cert.GluRefIdeal.Gen.bitsLt_bf16_f32) a1) Cert.GluRefIdeal.Gen.slices_S8192x20480_S8192x2048_0_12288) (Host.divf (broadcastInDim Cert.GluRefIdeal.S8192x2048 ![] Cert.GluRefIdeal.Gen.bcast_S_S8192x2048 (constant Cert.GluRefIdeal.S_ .f32 0x3F800000#32)) (addf (broadcastInDim Cert.GluRefIdeal.S8192x2048 ![] Cert.GluRefIdeal.Gen.bcast_S_S8192x2048 (constant Cert.GluRefIdeal.S_ .f32 0x3F800000#32)) (Host.exp (Host.negf (extractStridedSlice Cert.GluRefIdeal.S8192x2048 ![0, 14336] (Host.dotGeneral Cert.GluRefIdeal.dot_S8192x2048_S2048x20480_S8192x20480_1_0_0_1_n_n none (extf .f32 a0 Cert.GluRefIdeal.Gen.bitsLt_bf16_f32) a1) Cert.GluRefIdeal.Gen.slices_S8192x20480_S8192x2048_0_14336)))))

/-- The block each window reads or writes at a grid point. -/
theorem idx : ∀ t : Fin cfg0.N, win0_0.index t = ![t.val % 8, 0]
    ∧ win0_1.index t = ![0, 24 + t.val / 8]
    ∧ win0_2.index t = ![0, 28 + t.val / 8]
    ∧ win0_3.index t = ![t.val % 8, t.val / 8] :=
  (by decide +kernel : ∀ t : Fin grid0.N, _)

/-- The weights of the arguments, read at a row and a column. -/
def weight (c : Dev nD) (k : Fin 2048) (j : Fin 20480) : EReal :=
  (m ((c : Thread nD τ).loc main_arg1) : FVec Ideal S2048x20480 .f32) (ValueIdx.ix2 k j)

/-- The first carried tile after a point holds the first half of the point's columns. -/
theorem carried0 (c : Dev nD) : ∀ (n : ℕ) (hn : n < cfg0.N) (y : S2048x512.Idx),
    (outsAt0 m c n hn).2.1 y = weight m c ⟨(y 0).val, (y 0).isLt⟩
      ⟨12288 + n / 8 * 512 + (y 1).val, by
        have h1 : (y 1).val < 512 := (y 1).isLt
        have h2 : n < 32 := lt_of_lt_of_eq hn (show cfg0.N = 32 from N_0)
        omega⟩ := by
  intro n
  induction n using Nat.strong_induction_on with
  | _ n ih =>
    intro hn y
    by_cases h0 : n % 8 = 0
    · rw [outsAt0_A m c ⟨n, hn⟩ h0]
      frame_out
      pointwise [k0_pay1, k0_pay2, weight]
      blk_point [iblk, V, idx ⟨n, hn⟩]
    · rw [outsAt0_B m c ⟨n, hn⟩ h0]
      dsimp only [sout0_B_0]
      rw [ih (n - 1) (by omega) (Nat.lt_of_le_of_lt (Nat.sub_le _ _) hn) y]
      have e : (n - 1) / 8 = n / 8 := by omega
      simp only [e]

/-- The second carried tile after a point holds the second half of the point's columns. -/
theorem carried1 (c : Dev nD) : ∀ (n : ℕ) (hn : n < cfg0.N) (y : S2048x512.Idx),
    (outsAt0 m c n hn).2.2 y = weight m c ⟨(y 0).val, (y 0).isLt⟩
      ⟨14336 + n / 8 * 512 + (y 1).val, by
        have h1 : (y 1).val < 512 := (y 1).isLt
        have h2 : n < 32 := lt_of_lt_of_eq hn (show cfg0.N = 32 from N_0)
        omega⟩ := by
  intro n
  induction n using Nat.strong_induction_on with
  | _ n ih =>
    intro hn y
    by_cases h0 : n % 8 = 0
    · rw [outsAt0_A m c ⟨n, hn⟩ h0]
      frame_out
      pointwise [k0_pay1, k0_pay2, weight]
      blk_point [iblk, V, idx ⟨n, hn⟩]
    · rw [outsAt0_B m c ⟨n, hn⟩ h0]
      dsimp only [sout0_B_1]
      rw [ih (n - 1) (by omega) (Nat.lt_of_le_of_lt (Nat.sub_le _ _) hn) y]
      have e : (n - 1) / 8 = n / 8 := by omega
      simp only [e]

/-- The result array after the grid is the gated linear unit of the arguments. -/
theorem final (c : Dev nD) : (dats m 0 c).arrAt 3 (cfgs 0).N
    = glu (m ((c : Thread nD τ).loc main_arg0)) (m ((c : Thread nD τ).loc main_arg1)) := by
  refine (dats m 0 c).arrAt_eq_of_covers 3 _ (by decide +kernel) fun t _ y => ?_
  blk_simp
  rw [after0_3]
  by_cases h : t.val % 8 = 0
  · rw [outsAt0_A m c t h]
    frame_out
    pointwise [k0_pay1, k0_pay2, k0_pay3, glu, Ideal.logistic]
    blk_point [iblk, V, idx t]
  · rw [outsAt0_B m c t h]
    frame_out
    pointwise [k0_pay1, k0_pay2, k0_pay3, glu, Ideal.logistic]
    blk_point [iblk, V, idx t]
    all_goals have e : (t.val - 1) / 8 = t.val / 8 := by omega
    · refine (congrFun (read_unread_whole cc0_scratch0 _ _) _).trans ?_
      refine (carried0 m c (t.val - 1) _ _).trans ?_
      simp only [weight, e, Nat.add_assoc]
      rfl
    · refine (congrFun (read_unread_whole cc0_scratch1 _ _) _).trans ?_
      refine (carried1 m c (t.val - 1) _ _).trans ?_
      simp only [weight, e, Nat.add_assoc]
      rfl

end Cert.GluIdeal.Value
-- ==== Proof.OutprojValue.lean ====
module

public import proofs.«01_k».proof.Proof.Gen.OutprojIdeal.Value
public import proofs.«01_k».proof.Proof.Gen.OutprojRefIdeal.Run
public import Idealize.ShloMosaic.Lib.Pipeline.ValueKit
public import Idealize.ShloMosaic.Lib.Pointwise
public import Idealize.ShloMosaic.Lib.Pipeline.ReadBack

/-! The output projection after the kernel's grid. -/

set_option maxRecDepth 16384

@[expose] public section

noncomputable section

namespace Cert.OutprojIdeal.Value

open Idealize.ShloMosaic Idealize.ShloMosaic.TcCoe Idealize.SL.Sem
open Cert.OutprojIdeal Cert.OutprojIdeal.Gen

variable (m : (ℓ : Loc nD τ sig) → Buf (Elt Ideal) ℓ)

/-- The output projection: the argument it is added to, plus the rows times the weights. -/
abbrev outproj (a0 : FVec Ideal S8192x2048 .bf16) (a1 : FVec Ideal S2048x2048 .f32) (a2 : FVec Ideal S8192x2048 .f32) : FVec Ideal S8192x2048 .f32 :=
  addf a2 (Host.dotGeneral Cert.OutprojRefIdeal.dot_S8192x2048_S2048x2048_S8192x2048_1_0_0_1_n_n none (extf .f32 a0 Cert.OutprojRefIdeal.Gen.bitsLt_bf16_f32) a1)

/-- The block each window reads or writes at a grid point. -/
theorem idx : ∀ t : Fin cfg0.N, win0_0.index t = ![t.val % 8, 0]
    ∧ win0_1.index t = ![0, t.val / 8]
    ∧ win0_2.index t = ![t.val % 8, t.val / 8]
    ∧ win0_3.index t = ![t.val % 8, t.val / 8] :=
  (by decide +kernel : ∀ t : Fin grid0.N, _)

/-- The weights of the arguments, read at a row and a column. -/
def weight (c : Dev nD) (k : Fin 2048) (j : Fin 2048) : EReal :=
  (m ((c : Thread nD τ).loc main_arg1) : FVec Ideal S2048x2048 .f32) (ValueIdx.ix2 k j)

/-- The carried tile after a point holds the weights of the point's columns. -/
theorem carried (c : Dev nD) : ∀ (n : ℕ) (hn : n < cfg0.N) (y : S2048x1024.Idx),
    (outsAt0 m c n hn).2 y = weight m c ⟨(y 0).val, (y 0).isLt⟩
      ⟨n / 8 * 1024 + (y 1).val, by
        have h1 : (y 1).val < 1024 := (y 1).isLt
        have h2 : n < 16 := lt_of_lt_of_eq hn (show cfg0.N = 16 from N_0)
        omega⟩ := by
  intro n
  induction n using Nat.strong_induction_on with
  | _ n ih =>
    intro hn y
    by_cases h0 : n % 8 = 0
    · rw [outsAt0_A m c ⟨n, hn⟩ h0]
      frame_out
      pointwise [k0_pay1, weight]
      blk_point [iblk, V, idx ⟨n, hn⟩]
    · rw [outsAt0_B m c ⟨n, hn⟩ h0]
      dsimp only [sout0_B_0]
      rw [ih (n - 1) (by omega) (Nat.lt_of_le_of_lt (Nat.sub_le _ _) hn) y]
      have e : (n - 1) / 8 = n / 8 := by omega
      simp only [e]

/-- The result array after the grid is the output projection of the arguments. -/
theorem final (c : Dev nD) : (dats m 0 c).arrAt 3 (cfgs 0).N
    = outproj (m ((c : Thread nD τ).loc main_arg0)) (m ((c : Thread nD τ).loc main_arg1))
      (m ((c : Thread nD τ).loc main_arg2)) := by
  refine (dats m 0 c).arrAt_eq_of_covers 3 _ (by decide +kernel) fun t _ y => ?_
  blk_simp
  rw [after0_3]
  by_cases h : t.val % 8 = 0
  · rw [outsAt0_A m c t h]
    frame_out
    pointwise [k0_pay1, k0_pay2, outproj]
    blk_point [iblk, V, idx t]
  · rw [outsAt0_B m c t h]
    frame_out
    pointwise [k0_pay1, k0_pay2, outproj]
    blk_point [iblk, V, idx t]
    have e : (t.val - 1) / 8 = t.val / 8 := by omega
    refine (congrFun (read_unread_whole cc0_scratch0 _ _) _).trans ?_
    refine (carried m c (t.val - 1) _ _).trans ?_
    simp only [weight, e]
    have e1 : (((View.whole main_v0).slice (win0_3.rect t)).emb y 1).val = t.val / 8 * 1024 + (y 1).val := by
      blk_simp [idx t]
    exact congrArg (fun q => m ((c : Thread nD τ).loc main_arg1) (ValueIdx.ix2 k q)) (Fin.ext e1.symm)

end Cert.OutprojIdeal.Value
-- ==== Proof.Rotary.lean ====
module

public import Idealize.ShloMosaic.PureOps.Ideal
public import Idealize.ShloMosaic.Lib.Pointwise

/-! The rotary projection, read at an index: products of rows and columns, rotated by the angle of the row's place and the column's frequency. -/

@[expose] public section

noncomputable section

namespace Cert.Rotary

open Idealize.ShloMosaic

/-- The angle at place `n` of frequency `d`. -/
def ang (n d : ℕ) : EReal :=
  FloatOps.sitofp (F := Ideal) .f32 (BitVec.ofNat 32 n)
    * Ideal.pow (Ideal.ofBits .f32 1176256512#32)
      (Ideal.div (-(FloatOps.sitofp (F := Ideal) .f32 (BitVec.ofNat 32 d) : EReal)) (Ideal.ofBits .f32 1124073472#32))

/-- The decay of head `h` from row `i` of a chunk to the chunk's end. -/
def kdec (i h : ℕ) : EReal :=
  Ideal.exp ((Ideal.ofBits .f32 1132396544#32 - (FloatOps.sitofp (F := Ideal) .f32 (BitVec.ofNat 32 i) : EReal))
    * Ideal.log1p (-Ideal.exp (Ideal.ofBits .f32 1060205080#32
      * (Ideal.ofBits .f32 3231711232#32 - (FloatOps.sitofp (F := Ideal) .f32 (BitVec.ofNat 32 h) : EReal)))))

/-- A row of the first factor times a column of the second. -/
def prodR (a0 : FVec Ideal ⟨2, ![8192, 2048]⟩ .bf16) (a1 : FVec Ideal ⟨2, ![2048, 20480]⟩ .f32) (r : Fin 8192) (l : Fin 4096) : EReal :=
  ∑ k : Fin 2048, (a0 (ValueIdx.ix2 r k) : EReal) * a1 (ValueIdx.ix2 k ⟨l.val, by omega⟩)

/-- The rotated products: each head's first half with its second half. -/
def rotR (a0 : FVec Ideal ⟨2, ![8192, 2048]⟩ .bf16) (a1 : FVec Ideal ⟨2, ![2048, 20480]⟩ .f32) (r : Fin 8192) (l : Fin 4096) : EReal :=
  if h : l.val % 256 < 128 then
    prodR a0 a1 r l * Ideal.cos (ang (r.val % 2048) (l.val % 128))
      - prodR a0 a1 r ⟨l.val + 128, by omega⟩ * Ideal.sin (ang (r.val % 2048) (l.val % 128))
  else
    prodR a0 a1 r ⟨l.val - 128, by omega⟩ * Ideal.sin (ang (r.val % 2048) (l.val % 128))
      + prodR a0 a1 r l * Ideal.cos (ang (r.val % 2048) (l.val % 128))

/-- The queries, and the keys scaled, side by side. -/
def qkR (a0 : FVec Ideal ⟨2, ![8192, 2048]⟩ .bf16) (a1 : FVec Ideal ⟨2, ![2048, 20480]⟩ .f32) (r : Fin 8192) (l : Fin 4096) : EReal :=
  if l.val < 2048 then rotR a0 a1 r l else rotR a0 a1 r l * Ideal.ofBits .f32 1031798784#32

/-- The keys, decayed to the end of their chunk. -/
def kkR (a0 : FVec Ideal ⟨2, ![8192, 2048]⟩ .bf16) (a1 : FVec Ideal ⟨2, ![2048, 20480]⟩ .f32) (r : Fin 8192) (l : Fin 2048) : EReal :=
  rotR a0 a1 r ⟨2048 + l.val, by omega⟩ * Ideal.ofBits .f32 1031798784#32 * kdec (r.val % 256) (l.val / 256)

end Cert.Rotary
-- ==== Proof.Decay.lean ====
module

public import Idealize.ShloMosaic.PureOps.Ideal
public import Idealize.ShloMosaic.Lib.Pointwise

/-! Retention as one recurrence over real numbers: the state, the output, and how both pass over a chunk of any length. -/

@[expose] public section

noncomputable section

namespace Cert.Retention

open Idealize.ShloMosaic Finset

/-- A finite sum of real numbers, read in the extended reals. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The state after `n` tokens: every key times its value, decayed to the last of them. -/
def St (L : ℝ) (K : ℕ → Fin 256 → ℝ) (V : ℕ → Fin 512 → ℝ) (n : ℕ) (d : Fin 256) (e : Fin 512) : ℝ :=
  ∑ j ∈ range n, Real.exp (((n : ℝ) - 1 - j) * L) * (K j d * V j e)

/-- The output at token `n`: the values of all tokens up to it, each weighted by its key's product with the query and the decay between them. -/
def Ot (L : ℝ) (Q K : ℕ → Fin 256 → ℝ) (V : ℕ → Fin 512 → ℝ) (n : ℕ) (e : Fin 512) : ℝ :=
  ∑ j ∈ range (n + 1), Real.exp (((n : ℝ) - j) * L) * ((∑ d, Q n d * K j d) * V j e)

variable (L : ℝ) (Q K : ℕ → Fin 256 → ℝ) (V : ℕ → Fin 512 → ℝ)

/-- The state before any token is zero. -/
theorem St_zero (d : Fin 256) (e : Fin 512) : St L K V 0 d e = 0 := by simp [St]

/-- The state over a chunk of `c` tokens: the old state decayed, plus the chunk's own keys times values. -/
theorem St_add (n c : ℕ) (d : Fin 256) (e : Fin 512) :
    St L K V (n + c) d e
      = St L K V n d e * Real.exp (c * L)
        + ∑ i : Fin c, (K (n + i.val) d * Real.exp (((c : ℝ) - 1 - i.val) * L)) * V (n + i.val) e := by
  unfold St
  rw [sum_range_add, Finset.sum_mul, Finset.sum_range (n := c)]
  congr 1
  · refine Finset.sum_congr rfl fun j _ => ?_
    rw [show ((n + c : ℕ) : ℝ) - 1 - j = ((n : ℝ) - 1 - j) + c by push_cast; ring, add_mul, Real.exp_add]; ring
  · refine Finset.sum_congr rfl fun i _ => ?_
    rw [show ((n + c : ℕ) : ℝ) - 1 - ((n + i.val : ℕ) : ℝ) = (c : ℝ) - 1 - i.val by push_cast; ring]; ring

/-- The output inside a chunk: what the chunk's own tokens give, masked by the decay between rows, plus the carried state read by the decayed query. -/
theorem Ot_add (n c : ℕ) (i : Fin c) (e : Fin 512) :
    Ot L Q K V (n + i.val) e
      = (∑ j : Fin c, ((∑ d, Q (n + i.val) d * K (n + j.val) d)
            * (if j.val ≤ i.val then Real.exp (((i.val : ℝ) - j.val) * L) else 0)) * V (n + j.val) e)
        + Real.exp (((i.val : ℝ) + 1) * L) * ∑ d, Q (n + i.val) d * St L K V n d e := by
  unfold Ot St
  rw [show n + i.val + 1 = n + (i.val + 1) by ring, sum_range_add, add_comm]
  congr 1
  · rw [← Finset.sum_range (fun j => ((∑ d, Q (n + i.val) d * K (n + j) d)
            * (if j ≤ i.val then Real.exp (((i.val : ℝ) - j) * L) else 0)) * V (n + j) e)]
    rw [← Finset.sum_subset (s₁ := range (i.val + 1)) (s₂ := range c)]
    · refine Finset.sum_congr rfl fun j hj => ?_
      rw [if_pos (by have := Finset.mem_range.mp hj; omega),
        show ((n + i.val : ℕ) : ℝ) - ((n + j : ℕ) : ℝ) = (i.val : ℝ) - j by push_cast; ring]
      ring
    · intro x hx; have := Finset.mem_range.mp hx; exact Finset.mem_range.mpr (by omega)
    · intro x _ hx
      rw [if_neg (by intro h; exact hx (Finset.mem_range.mpr (by omega)))]
      ring
  · rw [Finset.mul_sum]
    simp only [Finset.mul_sum, Finset.sum_mul]
    rw [Finset.sum_comm]
    refine Finset.sum_congr rfl fun d _ => Finset.sum_congr rfl fun j _ => ?_
    rw [show ((n + i.val : ℕ) : ℝ) - j = ((n : ℝ) - 1 - j) + (i.val + 1) by push_cast; ring, add_mul, Real.exp_add]; ring

/-! ## The decay as the programs compute it -/

/-- The logarithm of head `h`'s decay, as both programs compute it. -/
def LG (h : Fin 8) : EReal :=
  Ideal.log1p (-Ideal.exp (Ideal.ofBits .f32 1060205080#32 * (Ideal.ofBits .f32 3231711232#32 - FloatOps.sitofp (F := Ideal) .f32 (BitVec.ofNat 32 h.val))))

/-- A small natural number, converted to a float, is that number. -/
theorem nat_cast (n : ℕ) (hn : n < 2 ^ 31) : FloatOps.sitofp (F := Ideal) .f32 (BitVec.ofNat 32 n) = ((n : ℝ) : EReal) := by
  show ((((BitVec.ofNat 32 n).toInt : ℤ) : ℝ) : EReal) = _
  rw [BitVec.toInt_eq_toNat_of_lt (by rw [BitVec.toNat_ofNat]; omega), BitVec.toNat_ofNat, Nat.mod_eq_of_lt (by omega)]
  simp

/-- The chunk's length as a constant of the program. -/
theorem bits_256 : Ideal.ofBits .f32 1132462080#32 = ((256 : ℝ) : EReal) := by
  simp [Ideal.ofBits, Ideal.ieee, -EReal.coe_mul, -EReal.coe_neg]
  norm_num

/-- The reference's chunk length as a constant of the program. -/
theorem bits_128 : Ideal.ofBits .f32 1124073472#32 = ((128 : ℝ) : EReal) := by
  simp [Ideal.ofBits, Ideal.ieee, -EReal.coe_mul, -EReal.coe_neg]
  norm_num

/-- The exponent's offset is minus five. -/
theorem bits_neg5 : Ideal.ofBits .f32 3231711232#32 = ((-5 : ℝ) : EReal) := by
  simp [Ideal.ofBits, Ideal.ieee, -EReal.coe_mul, -EReal.coe_neg]
  norm_num

/-- The constant that turns a power of two into an exponential is a positive real. -/
theorem bits_ln2 : ∃ x : ℝ, 0 < x ∧ Ideal.ofBits .f32 1060205080#32 = (x : EReal) := by
  refine ⟨11629080 / 16777216, by norm_num, ?_⟩
  simp [Ideal.ofBits, Ideal.ieee, -EReal.coe_mul, -EReal.coe_neg]
  norm_num

/-- The logarithm of the decay is a real number. -/
theorem LG_real (h : Fin 8) : ∃ L : ℝ, LG h = (L : EReal) := by
  obtain ⟨x, hx, e⟩ := bits_ln2
  unfold LG
  rw [e, bits_neg5, nat_cast _ (by omega), ← EReal.coe_sub, ← EReal.coe_mul, Ideal.exp_coe, ← EReal.coe_neg, Ideal.log1p, ← EReal.coe_one, ← EReal.coe_add,
    Ideal.log_coe, if_neg]
  · exact ⟨_, rfl⟩
  · have : Real.exp (x * (-5 - (h.val : ℝ))) < 1 := by
      rw [Real.exp_lt_one_iff]
      have : (0 : ℝ) ≤ h.val := Nat.cast_nonneg _
      nlinarith
    linarith

/-- The logarithm of head `h`'s decay as a real number. -/
def Lr (h : Fin 8) : ℝ := (LG_real h).choose

theorem LG_eq (h : Fin 8) : LG h = (Lr h : EReal) := (LG_real h).choose_spec

/-- The last row of the reference's chunk as a constant of the program. -/
theorem bits_127 : Ideal.ofBits .f32 1123942400#32 = ((127 : ℝ) : EReal) := by
  simp [Ideal.ofBits, Ideal.ieee, -EReal.coe_mul, -EReal.coe_neg]
  norm_num

/-- The masked decay between two rows is a real number. -/
theorem decay_real (h : Fin 8) (i j : ℕ) (hi : i < 2 ^ 31) (hj : j < 2 ^ 31) :
    (if 0 ≤ FloatOps.sitofp (F := Ideal) .f32 (BitVec.ofNat 32 i) - FloatOps.sitofp (F := Ideal) .f32 (BitVec.ofNat 32 j) then
        Ideal.exp (max (FloatOps.sitofp (F := Ideal) .f32 (BitVec.ofNat 32 i) - FloatOps.sitofp (F := Ideal) .f32 (BitVec.ofNat 32 j)) 0 * LG h)
      else 0 : EReal) = ((if j ≤ i then Real.exp (((i : ℝ) - j) * Lr h) else 0 : ℝ) : EReal) := by
  rw [nat_cast i hi, nat_cast j hj, LG_eq, ← EReal.coe_sub]
  have hc : (0 : EReal) ≤ (((i : ℝ) - j : ℝ) : EReal) ↔ j ≤ i := by
    rw [← EReal.coe_zero, EReal.coe_le_coe_iff, sub_nonneg, Nat.cast_le]
  by_cases hji : j ≤ i
  · rw [if_pos (hc.mpr hji), if_pos hji, max_eq_left (hc.mpr hji), ← EReal.coe_mul, Ideal.exp_coe]
  · rw [if_neg (fun hh => hji (hc.mp hh)), if_neg hji, EReal.coe_zero]

/-- The weight of the carried state is a real number. -/
theorem qdec_real (h : Fin 8) (i : ℕ) (hi : i < 2 ^ 31) :
    Ideal.exp ((FloatOps.sitofp (F := Ideal) .f32 (BitVec.ofNat 32 i) + 1) * LG h) = ((Real.exp (((i : ℝ) + 1) * Lr h) : ℝ) : EReal) := by
  rw [nat_cast i hi, LG_eq, ← EReal.coe_one, ← EReal.coe_add, ← EReal.coe_mul, Ideal.exp_coe]

/-- One head of one batch as a sequence of real vectors (past the end it starts again). -/
def seq {D : ℕ} (x : Fin 4 → Fin 2048 → Fin 8 → Fin D → EReal) (b : Fin 4) (h : Fin 8) (n : ℕ) (d : Fin D) : ℝ :=
  (x b ⟨n % 2048, Nat.mod_lt _ (by decide)⟩ h d).toReal

/-- An array none of whose entries is infinite. -/
def Fin4 {D : ℕ} (x : Fin 4 → Fin 2048 → Fin 8 → Fin D → EReal) : Prop := ∀ b n h d, x b n h d = ((x b n h d).toReal : EReal)

/-- An entry of a finite array, as a term of its sequence. -/
theorem Fin4.at {D : ℕ} {x : Fin 4 → Fin 2048 → Fin 8 → Fin D → EReal} (hx : Fin4 x) (b : Fin 4) (n : Fin 2048) (h : Fin 8) (d : Fin D)
    (r : ℕ) (hr : r = n.val) : x b n h d = (seq x b h r d : EReal) := by
  subst hr
  have e : (⟨n.val % 2048, Nat.mod_lt _ (by decide)⟩ : Fin 2048) = n := Fin.ext (Nat.mod_eq_of_lt n.isLt)
  unfold seq
  rw [e]
  exact hx b n h d

/-- Group norm over one head's values, then the gate. -/
def gated (o : Fin 512 → EReal) (g : EReal) (e : Fin 512) : EReal :=
  (g * Ideal.logistic g) * (o e * Ideal.rsqrt (Ideal.div (∑ l : Fin 512, o l * o l) (Ideal.ofBits .f32 0x44000000#32)
    + Ideal.ofBits .f32 0x358637BD#32))

end Cert.Retention
-- ==== Proof.RopeEntry.lean ====
module

public import proofs.«01_k».proof.Proof.Gen.RopeIdeal.Value
public import proofs.«01_k».proof.Proof.Decay
public import proofs.«01_k».proof.Proof.Rotary
public import Idealize.ShloMosaic.Lib.Pipeline.ValueKit
public import Idealize.ShloMosaic.Lib.Pointwise
public import Idealize.ShloMosaic.Lib.Pipeline.ReadBack
public import Idealize.ShloMosaic.Lib.StableHlo.RunLoop
public import Idealize.ShloMosaic.Lib.StableHlo.RunRead

/-! What the rotary projection's launch finds in its tables, read at an index. -/

set_option maxRecDepth 16384

@[expose] public section

noncomputable section

namespace Cert.RopeIdeal.Value

open Idealize.ShloMosaic Idealize.ShloMosaic.TcCoe Idealize.SL.Sem
open Cert.RopeIdeal Cert.RopeIdeal.Gen

variable (m : (ℓ : Loc nD τ sig) → Buf (Elt Ideal) ℓ)

/-- The cosines of the angles. -/
theorem cos_at (c : Dev nD) (n : Fin 2048) (d : Fin 128) :
    (V m c main_v67 : FVec Ideal S2048x128 .f32) (ValueIdx.ix2 n d) = (Ideal.cos (Cert.Rotary.ang n.val d.val) : EReal) := by
  unfold V; rw [← StableHlo.afterL_eq_after_flatten]
  simp only [StableHlo.afterL_cons, StableHlo.afterL_nil]
  after_reads_simp
  pointwise []
  have e : IntOp.addi (0#32) (BitVec.ofNat 32 n.val) = BitVec.ofNat 32 n.val := BitVec.zero_add _
  exact congrArg (fun b : BitVec 32 => Ideal.cos ((FloatOps.sitofp (F := Ideal) .f32 b : EReal)
    * Ideal.pow (Ideal.ofBits .f32 1176256512#32)
      (Ideal.div (-(FloatOps.sitofp (F := Ideal) .f32 (BitVec.ofNat 32 d.val) : EReal)) (Ideal.ofBits .f32 1124073472#32)))) e

/-- The sines of the angles. -/
theorem sin_at (c : Dev nD) (n : Fin 2048) (d : Fin 128) :
    (V m c main_v70 : FVec Ideal S2048x128 .f32) (ValueIdx.ix2 n d) = (Ideal.sin (Cert.Rotary.ang n.val d.val) : EReal) := by
  unfold V; rw [← StableHlo.afterL_eq_after_flatten]
  simp only [StableHlo.afterL_cons, StableHlo.afterL_nil]
  after_reads_simp
  pointwise []
  have e : IntOp.addi (0#32) (BitVec.ofNat 32 n.val) = BitVec.ofNat 32 n.val := BitVec.zero_add _
  exact congrArg (fun b : BitVec 32 => Ideal.sin ((FloatOps.sitofp (F := Ideal) .f32 b : EReal)
    * Ideal.pow (Ideal.ofBits .f32 1176256512#32)
      (Ideal.div (-(FloatOps.sitofp (F := Ideal) .f32 (BitVec.ofNat 32 d.val) : EReal)) (Ideal.ofBits .f32 1124073472#32)))) e

/-- The last row of a chunk. -/
theorem last_row : (Ideal.ofBits .f32 1132462080#32 - 1 : EReal) = Ideal.ofBits .f32 1132396544#32 := by
  have e : Ideal.ofBits .f32 1132396544#32 = ((255 : ℝ) : EReal) := by
    simp [Ideal.ofBits, Ideal.ieee, -EReal.coe_mul, -EReal.coe_neg]
    norm_num
  rw [Cert.Retention.bits_256, e]
  rw [← EReal.coe_one, ← EReal.coe_sub]
  norm_num

/-- The decay of the keys to the end of their chunk. -/
theorem kd_at (c : Dev nD) (i : Fin 256) (l : Fin 2048) :
    (V m c main_v73 : FVec Ideal S256x2048 .f32) (ValueIdx.ix2 i l) = (Cert.Rotary.kdec i.val (l.val / 256) : EReal) := by
  unfold V; rw [← StableHlo.afterL_eq_after_flatten]
  simp only [StableHlo.afterL_cons, StableHlo.afterL_nil]
  after_reads_simp
  pointwise []
  rw [last_row]
  rfl

end Cert.RopeIdeal.Value
-- ==== Proof.RopeRot.lean ====
module

public import proofs.«01_k».proof.Proof.Gen.RopeIdeal.Value
public import Idealize.ShloMosaic.Lib.Pipeline.ValueKit
public import Idealize.ShloMosaic.Lib.Pointwise
public import Idealize.ShloMosaic.Lib.Pipeline.ReadBack

/-! A tile of products rotated by the angles of its rows. -/

set_option maxRecDepth 16384

@[expose] public section

noncomputable section

namespace Cert.RopeIdeal.Value

open Idealize.ShloMosaic Idealize.ShloMosaic.TcCoe Idealize.SL.Sem
open Cert.RopeIdeal Cert.RopeIdeal.Gen

variable (m : (ℓ : Loc nD τ sig) → Buf (Elt Ideal) ℓ)

/-- A tile of products, each half-head rotated by the angles of its row. -/
def rotS (acc : FVec Ideal S1024x1024 .f32) (cs sn : FVec Ideal S1024x128 .f32) (y : S1024x1024.Idx) : EReal :=
  if h : (y 1).val % 256 < 128 then
    acc y * cs (ValueIdx.ix2 (y 0) ⟨(y 1).val % 128, by omega⟩)
      - acc (ValueIdx.ix2 (y 0) ⟨(y 1).val + 128, by have : (y 1).val < 1024 := (y 1).isLt; omega⟩) * sn (ValueIdx.ix2 (y 0) ⟨(y 1).val % 128, by omega⟩)
  else
    acc (ValueIdx.ix2 (y 0) ⟨(y 1).val - 128, by have : (y 1).val < 1024 := (y 1).isLt; omega⟩) * sn (ValueIdx.ix2 (y 0) ⟨(y 1).val % 128, by omega⟩)
      + acc y * cs (ValueIdx.ix2 (y 0) ⟨(y 1).val % 128, by omega⟩)

end Cert.RopeIdeal.Value
-- ==== Proof.RopeIdx.lean ====
module

public import proofs.«01_k».proof.Proof.Gen.RopeIdeal.Value
public import proofs.«01_k».proof.Proof.Rotary
public import proofs.«01_k».proof.Proof.RopeEntry
public import proofs.«01_k».proof.Proof.RopeRot
public import Idealize.ShloMosaic.Lib.Pipeline.ValueKit
public import Idealize.ShloMosaic.Lib.Pointwise
public import Idealize.ShloMosaic.Lib.Pipeline.ReadBack

/-! The blocks of the rotary projection's grid, the scale of its points and the weights it carries. -/

set_option maxRecDepth 16384

@[expose] public section

noncomputable section

namespace Cert.RopeIdeal.Value

open Idealize.ShloMosaic Idealize.ShloMosaic.TcCoe Idealize.SL.Sem
open Cert.RopeIdeal Cert.RopeIdeal.Gen

variable (m : (ℓ : Loc nD τ sig) → Buf (Elt Ideal) ℓ)

/-- The block each window reads or writes at a grid point. -/
theorem idx : ∀ t : Fin cfg0.N, win0_0.index t = ![t.val % 8, 0]
    ∧ win0_1.index t = ![0, t.val / 8]
    ∧ win0_2.index t = ![t.val % 2, 0]
    ∧ win0_3.index t = ![t.val % 2, 0]
    ∧ win0_4.index t = ![0, t.val / 8 - 2]
    ∧ win0_5.index t = ![t.val, 0]
    ∧ win0_6.index t = ![t.val, 0]
    ∧ win0_7.index t = ![t.val % 8, t.val / 8]
    ∧ win0_9.index t = ![t.val, 0]
    ∧ win0_10.index t = ![t.val, 0] :=
  (by decide +kernel : ∀ t : Fin grid0.N, _)

/-- The block of the decayed keys at a grid point, among the keys. -/
theorem idx8 : ∀ t : Fin cfg0.N, 16 ≤ t.val → win0_8.index t = ![t.val % 8, t.val / 8 - 2] :=
  (by decide +kernel : ∀ t : Fin grid0.N, 16 ≤ t.val → win0_8.index t = ![t.val % 8, t.val / 8 - 2])

/-- The decayed keys leave the grid only from its points among the keys. -/
theorem flush8 : ∀ t : Fin cfg0.N, (cfg0.win 8).flush t = true → 16 ≤ t.val :=
  (by decide +kernel : ∀ t : Fin grid0.N, (cfg0.win 8).flush t = true → 16 ≤ t.val)

/-- The column of tiles of a grid point. -/
theorem coords0 : ∀ t : Fin cfg0.N, (grid0.coords t 0).val = t.val / 8 :=
  (by decide +kernel : ∀ t : Fin grid0.N, (grid0.coords t 0).val = t.val / 8)

/-- One as a constant of the program. -/
theorem bits_1 : Ideal.ofBits .f32 1065353216#32 = (1 : EReal) := by
  have : Ideal.ofBits .f32 1065353216#32 = ((1 : ℝ) : EReal) := by
    simp [Ideal.ofBits, Ideal.ieee, -EReal.coe_mul, -EReal.coe_neg]
    norm_num
  exact this.trans EReal.coe_one

/-- The queries are not scaled. -/
theorem scale_q (t : Fin cfg0.N) (h : ¬16 ≤ t.val) : (k0_pay8 (grid0.coords t) : Ideal .f32) = (1 : EReal) := by
  have : ∀ t : Fin grid0.N, ¬16 ≤ t.val → Scalar.cmpi .sge (BitVec.ofNat 32 (grid0.coords t 0).val) 2#32 = 0#1 := by decide +kernel
  unfold k0_pay8
  dsimp only
  rw [this t h]
  exact bits_1

/-- The keys are scaled. -/
theorem scale_k (t : Fin cfg0.N) (h : 16 ≤ t.val) : (k0_pay8 (grid0.coords t) : Ideal .f32) = Ideal.ofBits .f32 1031798784#32 := by
  have : ∀ t : Fin grid0.N, 16 ≤ t.val → Scalar.cmpi .sge (BitVec.ofNat 32 (grid0.coords t 0).val) 2#32 = 1#1 := by decide +kernel
  unfold k0_pay8
  dsimp only
  rw [this t h]
  rfl

/-- The carried tile after a point holds the weights of the point's columns. -/
theorem carried (c : Dev nD) : ∀ (n : ℕ) (hn : n < cfg0.N) (y : S2048x1024.Idx),
    (outsAt0 m c n hn).2.2.2.2 y = (m ((c : Thread nD τ).loc main_arg1) : FVec Ideal S2048x20480 .f32) (ValueIdx.ix2 ⟨(y 0).val, (y 0).isLt⟩
      ⟨n / 8 * 1024 + (y 1).val, by
        have h1 : (y 1).val < 1024 := (y 1).isLt
        have h2 : n < 32 := lt_of_lt_of_eq hn (show cfg0.N = 32 from N_0)
        omega⟩) := by
  intro n
  induction n using Nat.strong_induction_on with
  | _ n ih =>
    intro hn y
    have e : ¬ n % 8 = 0 → (n - 1) / 8 = n / 8 := by omega
    by_cases h0 : n % 8 = 0
    · by_cases h1 : 16 ≤ n
      · rw [outsAt0_C m c ⟨n, hn⟩ h0 h1 h1 h1 h1]
        frame_out
        pointwise [k0_pay6]
        blk_point [iblk, V, idx ⟨n, hn⟩]
      · rw [outsAt0_A m c ⟨n, hn⟩ h0 h1 h1 h1 h1]
        frame_out
        pointwise [k0_pay6]
        blk_point [iblk, V, idx ⟨n, hn⟩]
    · by_cases h1 : 16 ≤ n
      · rw [outsAt0_D m c ⟨n, hn⟩ h0 h1 h1 h1 h1]
        dsimp only [sout0_D_0]
        refine (ih (n - 1) (by omega) (Nat.lt_of_le_of_lt (Nat.sub_le _ _) hn) y).trans ?_
        simp only [e h0]
      · rw [outsAt0_B m c ⟨n, hn⟩ h0 h1 h1 h1 h1]
        dsimp only [sout0_B_0]
        refine (ih (n - 1) (by omega) (Nat.lt_of_le_of_lt (Nat.sub_le _ _) hn) y).trans ?_
        simp only [e h0]

/-- A tile of products at a point that opens a column of tiles. -/
theorem acc_open (c : Dev nD) (t : Fin cfg0.N) (y : S1024x1024.Idx) (r : Fin 8192) (l : Fin 4096)
    (hr : r.val = t.val % 8 * 1024 + (y 0).val) (hl : l.val = t.val / 8 * 1024 + (y 1).val) :
    k0_pay7 (iblk m c 0 t) (k0_pay6 (iblk m c 1 t)) y
      = Cert.Rotary.prodR (m ((c : Thread nD τ).loc main_arg0)) (m ((c : Thread nD τ).loc main_arg1)) r l := by
  pointwise [k0_pay6, k0_pay7, Cert.Rotary.prodR]
  blk_point [iblk, V, idx t]
  all_goals first
    | exact hr.symm
    | exact hl.symm
    | (trace_state; omega)

/-- A tile of products at a later point of a column of tiles. -/
theorem acc_later (c : Dev nD) (t : Fin cfg0.N) (h : ¬ t.val % 8 = 0) (y : S1024x1024.Idx) (r : Fin 8192) (l : Fin 4096)
    (hr : r.val = t.val % 8 * 1024 + (y 0).val) (hl : l.val = t.val / 8 * 1024 + (y 1).val) :
    k0_pay7 (iblk m c 0 t) (outsAt0 m c (t.val - 1) (Nat.lt_of_le_of_lt (Nat.sub_le _ _) t.isLt)).2.2.2.2 y
      = Cert.Rotary.prodR (m ((c : Thread nD τ).loc main_arg0)) (m ((c : Thread nD τ).loc main_arg1)) r l := by
  generalize hw : (outsAt0 m c (t.val - 1) (Nat.lt_of_le_of_lt (Nat.sub_le _ _) t.isLt)).2.2.2.2 = w
  pointwise [k0_pay7, Cert.Rotary.prodR]
  subst hw
  refine Finset.sum_congr rfl fun k _ => ?_
  refine congrArg₂ (fun a b : EReal => a * b) ?_ ?_
  · blk_point [iblk, V, idx t]
    all_goals exact hr.symm
  · refine (carried m c (t.val - 1) _ _).trans ?_
    have e : (t.val - 1) / 8 = t.val / 8 := by omega
    exact congrArg (fun q => (m ((c : Thread nD τ).loc main_arg1) : FVec Ideal S2048x20480 .f32) (ValueIdx.ix2 _ q)) (Fin.ext (by show (t.val - 1) / 8 * 1024 + (y 1).val = l.val; rw [e, hl]))

/-- The cosines a point reads. -/
theorem cos_blk (c : Dev nD) (t : Fin cfg0.N) (i : Fin 1024) (d : Fin 128) :
    (iblk m c 2 t : FVec Ideal S1024x128 .f32) (ValueIdx.ix2 i d) = (Ideal.cos (Cert.Rotary.ang (t.val % 2 * 1024 + i.val) d.val) : EReal) := by
  refine Eq.trans ?_ (cos_at m c ⟨t.val % 2 * 1024 + i.val, by omega⟩ d)
  blk_point [iblk, idx t]

/-- The sines a point reads. -/
theorem sin_blk (c : Dev nD) (t : Fin cfg0.N) (i : Fin 1024) (d : Fin 128) :
    (iblk m c 3 t : FVec Ideal S1024x128 .f32) (ValueIdx.ix2 i d) = (Ideal.sin (Cert.Rotary.ang (t.val % 2 * 1024 + i.val) d.val) : EReal) := by
  refine Eq.trans ?_ (sin_at m c ⟨t.val % 2 * 1024 + i.val, by omega⟩ d)
  blk_point [iblk, idx t]

/-- The decay a point reads. -/
theorem kd_blk (c : Dev nD) (t : Fin cfg0.N) (h : 16 ≤ t.val) (i : Fin 256) (j : Fin 1024) :
    (iblk m c 4 t : FVec Ideal S256x1024 .f32) (ValueIdx.ix2 i j) = (Cert.Rotary.kdec i.val (((t.val / 8 - 2) * 1024 + j.val) / 256) : EReal) := by
  have ht : t.val < 32 := lt_of_lt_of_eq t.isLt (show cfg0.N = 32 from N_0)
  refine Eq.trans ?_ (kd_at m c i ⟨(t.val / 8 - 2) * 1024 + j.val, by omega⟩)
  blk_point [iblk, idx t]

/-- A rotated tile of products, read at an index. -/
theorem rot_blk (c : Dev nD) (t : Fin cfg0.N) (acc : FVec Ideal S1024x1024 .f32)
    (hacc : ∀ (y : S1024x1024.Idx) (r : Fin 8192) (l : Fin 4096), r.val = t.val % 8 * 1024 + (y 0).val → l.val = t.val / 8 * 1024 + (y 1).val →
      acc y = Cert.Rotary.prodR (m ((c : Thread nD τ).loc main_arg0)) (m ((c : Thread nD τ).loc main_arg1)) r l)
    (y : S1024x1024.Idx) (r : Fin 8192) (l : Fin 4096)
    (hr : r.val = t.val % 8 * 1024 + (y 0).val) (hl : l.val = t.val / 8 * 1024 + (y 1).val) :
    rotS acc (iblk m c 2 t) (iblk m c 3 t) y
      = Cert.Rotary.rotR (m ((c : Thread nD τ).loc main_arg0)) (m ((c : Thread nD τ).loc main_arg1)) r l := by
  have y1 : (y 1).val < 1024 := (y 1).isLt
  have y0 : (y 0).val < 1024 := (y 0).isLt
  have er : t.val % 2 * 1024 + (y 0).val = r.val % 2048 := by omega
  have el : (y 1).val % 128 = l.val % 128 := by omega
  have hc : (iblk m c 2 t : FVec Ideal S1024x128 .f32) (ValueIdx.ix2 (y 0) ⟨(y 1).val % 128, by omega⟩)
      = (Ideal.cos (Cert.Rotary.ang (r.val % 2048) (l.val % 128)) : EReal) := by
    refine (cos_blk m c t (y 0) ⟨(y 1).val % 128, by omega⟩).trans ?_
    rw [er]; exact congrArg (fun q => (Ideal.cos (Cert.Rotary.ang _ q) : EReal)) el
  have hs : (iblk m c 3 t : FVec Ideal S1024x128 .f32) (ValueIdx.ix2 (y 0) ⟨(y 1).val % 128, by omega⟩)
      = (Ideal.sin (Cert.Rotary.ang (r.val % 2048) (l.val % 128)) : EReal) := by
    refine (sin_blk m c t (y 0) ⟨(y 1).val % 128, by omega⟩).trans ?_
    rw [er]; exact congrArg (fun q => (Ideal.sin (Cert.Rotary.ang _ q) : EReal)) el
  unfold rotS Cert.Rotary.rotR
  by_cases g : (y 1).val % 256 < 128
  · rw [dif_pos g, dif_pos (show l.val % 256 < 128 by omega), hc, hs, hacc y r l hr hl,
      hacc (ValueIdx.ix2 (y 0) ⟨(y 1).val + 128, by omega⟩) r ⟨l.val + 128, by omega⟩ hr (by show l.val + 128 = t.val / 8 * 1024 + ((y 1).val + 128); omega)]
  · rw [dif_neg g, dif_neg (show ¬ l.val % 256 < 128 by omega), hc, hs, hacc y r l hr hl,
      hacc (ValueIdx.ix2 (y 0) ⟨(y 1).val - 128, by omega⟩) r ⟨l.val - 128, by omega⟩ hr (by show l.val - 128 = t.val / 8 * 1024 + ((y 1).val - 128); omega)]

end Cert.RopeIdeal.Value
-- ==== Proof.RopeBlockA.lean ====
module

public import proofs.«01_k».proof.Proof.Gen.RopeIdeal.Value
public import proofs.«01_k».proof.Proof.RopeRot
public import Idealize.ShloMosaic.Lib.Pipeline.ValueKit
public import Idealize.ShloMosaic.Lib.Pointwise
public import Idealize.ShloMosaic.Lib.Pipeline.ReadBack

/-! What a grid point of the rotary projection leaves in its output blocks. -/

set_option maxRecDepth 16384

@[expose] public section

noncomputable section

namespace Cert.RopeIdeal.Value

open Idealize.ShloMosaic Idealize.ShloMosaic.TcCoe Idealize.SL.Sem
open Cert.RopeIdeal Cert.RopeIdeal.Gen

variable (m : (ℓ : Loc nD τ sig) → Buf (Elt Ideal) ℓ)

set_option maxHeartbeats 1000000 in
/-- The rotated tile at a point that opens a column of tiles, among the queries. -/
theorem out7_A (c : Dev nD) (t : Fin cfg0.N) (h0 : t.val % 8 = 0) (h1 : ¬16 ≤ t.val) (y : S1024x1024.Idx) :
    (outsAt0 m c t.val t.isLt).1 y = rotS (k0_pay7 (iblk m c 0 t) (k0_pay6 (iblk m c 1 t))) (iblk m c 2 t) (iblk m c 3 t) y * (k0_pay8 (grid0.coords t) : Ideal .f32) := by
  rw [outsAt0_A m c t h0 h1 h1 h1 h1]
  frame_open
  simp (disch := decide) only [↓ View.readCov_skip, ↓ View.readCov_cons_toLoadRect, ↓ View.readCov_fill]
  frame_out
  generalize k0_pay7 (iblk m c 0 t) (k0_pay6 (iblk m c 1 t)) = acc
  generalize (iblk m c 2 t : FVec Ideal S1024x128 .f32) = cs
  generalize (iblk m c 3 t : FVec Ideal S1024x128 .f32) = sn
  generalize (k0_pay8 (grid0.coords t) : Ideal .f32) = sc
  canon_tiles x h
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
    refine congrArg (· * sc) ?_
    unfold rotS
    by_cases b0 : (x 1).val < 128
    · refine (dif_pos b0).trans ?_
      refine Eq.trans ?_ (dif_pos (show (y 1).val % 256 < 128 by omega)).symm
      blk_point []
      all_goals exact h0.symm
    refine (dif_neg b0).trans ?_
    by_cases b1 : (x 1).val - 128 < 128
    · refine (dif_pos b1).trans ?_
      refine Eq.trans ?_ (dif_neg (show ¬ (y 1).val % 256 < 128 by omega)).symm
      blk_point []
      all_goals exact h0.symm
    refine (dif_neg b1).trans ?_
    by_cases b2 : (x 1).val - 128 - 128 < 128
    · refine (dif_pos b2).trans ?_
      refine Eq.trans ?_ (dif_pos (show (y 1).val % 256 < 128 by omega)).symm
      blk_point []
      all_goals exact h0.symm
    refine (dif_neg b2).trans ?_
    by_cases b3 : (x 1).val - 128 - 128 - 128 < 128
    · refine (dif_pos b3).trans ?_
      refine Eq.trans ?_ (dif_neg (show ¬ (y 1).val % 256 < 128 by omega)).symm
      blk_point []
      all_goals exact h0.symm
    refine (dif_neg b3).trans ?_
    by_cases b4 : (x 1).val - 128 - 128 - 128 - 128 < 128
    · refine (dif_pos b4).trans ?_
      refine Eq.trans ?_ (dif_pos (show (y 1).val % 256 < 128 by omega)).symm
      blk_point []
      all_goals exact h0.symm
    refine (dif_neg b4).trans ?_
    by_cases b5 : (x 1).val - 128 - 128 - 128 - 128 - 128 < 128
    · refine (dif_pos b5).trans ?_
      refine Eq.trans ?_ (dif_neg (show ¬ (y 1).val % 256 < 128 by omega)).symm
      blk_point []
      all_goals exact h0.symm
    refine (dif_neg b5).trans ?_
    by_cases b6 : (x 1).val - 128 - 128 - 128 - 128 - 128 - 128 < 128
    · refine (dif_pos b6).trans ?_
      refine Eq.trans ?_ (dif_pos (show (y 1).val % 256 < 128 by omega)).symm
      blk_point []
      all_goals exact h0.symm
    refine (dif_neg b6).trans ?_
    refine Eq.trans ?_ (dif_neg (show ¬ (y 1).val % 256 < 128 by omega)).symm
    blk_point []
    all_goals exact h0.symm

end Cert.RopeIdeal.Value
-- ==== Proof.RopeBlockB.lean ====
module

public import proofs.«01_k».proof.Proof.Gen.RopeIdeal.Value
public import proofs.«01_k».proof.Proof.RopeRot
public import Idealize.ShloMosaic.Lib.Pipeline.ValueKit
public import Idealize.ShloMosaic.Lib.Pointwise
public import Idealize.ShloMosaic.Lib.Pipeline.ReadBack

/-! What a grid point of the rotary projection leaves in its output blocks. -/

set_option maxRecDepth 16384

@[expose] public section

noncomputable section

namespace Cert.RopeIdeal.Value

open Idealize.ShloMosaic Idealize.ShloMosaic.TcCoe Idealize.SL.Sem
open Cert.RopeIdeal Cert.RopeIdeal.Gen

variable (m : (ℓ : Loc nD τ sig) → Buf (Elt Ideal) ℓ)

set_option maxHeartbeats 1000000 in
/-- The rotated tile at a later point of a column of tiles, among the queries. -/
theorem out7_B (c : Dev nD) (t : Fin cfg0.N) (h0 : ¬t.val % 8 = 0) (h1 : ¬16 ≤ t.val) (y : S1024x1024.Idx) :
    (outsAt0 m c t.val t.isLt).1 y = rotS (k0_pay7 (iblk m c 0 t) (outsAt0 m c (t.val - 1) (Nat.lt_of_le_of_lt (Nat.sub_le _ _) t.isLt)).2.2.2.2) (iblk m c 2 t) (iblk m c 3 t) y * (k0_pay8 (grid0.coords t) : Ideal .f32) := by
  rw [outsAt0_B m c t h0 h1 h1 h1 h1]
  frame_open
  simp (disch := decide) only [↓ View.readCov_skip, ↓ View.readCov_cons_toLoadRect, ↓ View.readCov_fill]
  frame_out
  simp only [↓ read_unread_whole]
  generalize k0_pay7 (iblk m c 0 t) (outsAt0 m c (t.val - 1) (Nat.lt_of_le_of_lt (Nat.sub_le _ _) t.isLt)).2.2.2.2 = acc
  generalize (iblk m c 2 t : FVec Ideal S1024x128 .f32) = cs
  generalize (iblk m c 3 t : FVec Ideal S1024x128 .f32) = sn
  generalize (k0_pay8 (grid0.coords t) : Ideal .f32) = sc
  canon_tiles x h
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
    refine congrArg (· * sc) ?_
    unfold rotS
    by_cases b0 : (x 1).val < 128
    · refine (dif_pos b0).trans ?_
      refine Eq.trans ?_ (dif_pos (show (y 1).val % 256 < 128 by omega)).symm
      blk_point []
      all_goals exact h0.symm
    refine (dif_neg b0).trans ?_
    by_cases b1 : (x 1).val - 128 < 128
    · refine (dif_pos b1).trans ?_
      refine Eq.trans ?_ (dif_neg (show ¬ (y 1).val % 256 < 128 by omega)).symm
      blk_point []
      all_goals exact h0.symm
    refine (dif_neg b1).trans ?_
    by_cases b2 : (x 1).val - 128 - 128 < 128
    · refine (dif_pos b2).trans ?_
      refine Eq.trans ?_ (dif_pos (show (y 1).val % 256 < 128 by omega)).symm
      blk_point []
      all_goals exact h0.symm
    refine (dif_neg b2).trans ?_
    by_cases b3 : (x 1).val - 128 - 128 - 128 < 128
    · refine (dif_pos b3).trans ?_
      refine Eq.trans ?_ (dif_neg (show ¬ (y 1).val % 256 < 128 by omega)).symm
      blk_point []
      all_goals exact h0.symm
    refine (dif_neg b3).trans ?_
    by_cases b4 : (x 1).val - 128 - 128 - 128 - 128 < 128
    · refine (dif_pos b4).trans ?_
      refine Eq.trans ?_ (dif_pos (show (y 1).val % 256 < 128 by omega)).symm
      blk_point []
      all_goals exact h0.symm
    refine (dif_neg b4).trans ?_
    by_cases b5 : (x 1).val - 128 - 128 - 128 - 128 - 128 < 128
    · refine (dif_pos b5).trans ?_
      refine Eq.trans ?_ (dif_neg (show ¬ (y 1).val % 256 < 128 by omega)).symm
      blk_point []
      all_goals exact h0.symm
    refine (dif_neg b5).trans ?_
    by_cases b6 : (x 1).val - 128 - 128 - 128 - 128 - 128 - 128 < 128
    · refine (dif_pos b6).trans ?_
      refine Eq.trans ?_ (dif_pos (show (y 1).val % 256 < 128 by omega)).symm
      blk_point []
      all_goals exact h0.symm
    refine (dif_neg b6).trans ?_
    refine Eq.trans ?_ (dif_neg (show ¬ (y 1).val % 256 < 128 by omega)).symm
    blk_point []
    all_goals exact h0.symm

end Cert.RopeIdeal.Value
-- ==== Proof.RopeBlockC.lean ====
module

public import proofs.«01_k».proof.Proof.Gen.RopeIdeal.Value
public import proofs.«01_k».proof.Proof.RopeRot
public import Idealize.ShloMosaic.Lib.Pipeline.ValueKit
public import Idealize.ShloMosaic.Lib.Pointwise
public import Idealize.ShloMosaic.Lib.Pipeline.ReadBack

/-! What a grid point of the rotary projection leaves in its output blocks. -/

set_option maxRecDepth 16384

@[expose] public section

noncomputable section

namespace Cert.RopeIdeal.Value

open Idealize.ShloMosaic Idealize.ShloMosaic.TcCoe Idealize.SL.Sem
open Cert.RopeIdeal Cert.RopeIdeal.Gen

variable (m : (ℓ : Loc nD τ sig) → Buf (Elt Ideal) ℓ)

set_option maxHeartbeats 1000000 in
/-- The rotated tile at a point that opens a column of tiles, among the keys. -/
theorem out7_C (c : Dev nD) (t : Fin cfg0.N) (h0 : t.val % 8 = 0) (h1 : 16 ≤ t.val) (y : S1024x1024.Idx) :
    (outsAt0 m c t.val t.isLt).1 y = rotS (k0_pay7 (iblk m c 0 t) (k0_pay6 (iblk m c 1 t))) (iblk m c 2 t) (iblk m c 3 t) y * (k0_pay8 (grid0.coords t) : Ideal .f32) := by
  rw [outsAt0_C m c t h0 h1 h1 h1 h1]
  frame_open
  simp (disch := decide) only [↓ View.readCov_skip, ↓ View.readCov_cons_toLoadRect, ↓ View.readCov_fill]
  frame_out
  generalize k0_pay7 (iblk m c 0 t) (k0_pay6 (iblk m c 1 t)) = acc
  generalize (iblk m c 2 t : FVec Ideal S1024x128 .f32) = cs
  generalize (iblk m c 3 t : FVec Ideal S1024x128 .f32) = sn
  generalize (k0_pay8 (grid0.coords t) : Ideal .f32) = sc
  canon_tiles x h
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
    refine congrArg (· * sc) ?_
    unfold rotS
    by_cases b0 : (x 1).val < 128
    · refine (dif_pos b0).trans ?_
      refine Eq.trans ?_ (dif_pos (show (y 1).val % 256 < 128 by omega)).symm
      blk_point []
      all_goals exact h0.symm
    refine (dif_neg b0).trans ?_
    by_cases b1 : (x 1).val - 128 < 128
    · refine (dif_pos b1).trans ?_
      refine Eq.trans ?_ (dif_neg (show ¬ (y 1).val % 256 < 128 by omega)).symm
      blk_point []
      all_goals exact h0.symm
    refine (dif_neg b1).trans ?_
    by_cases b2 : (x 1).val - 128 - 128 < 128
    · refine (dif_pos b2).trans ?_
      refine Eq.trans ?_ (dif_pos (show (y 1).val % 256 < 128 by omega)).symm
      blk_point []
      all_goals exact h0.symm
    refine (dif_neg b2).trans ?_
    by_cases b3 : (x 1).val - 128 - 128 - 128 < 128
    · refine (dif_pos b3).trans ?_
      refine Eq.trans ?_ (dif_neg (show ¬ (y 1).val % 256 < 128 by omega)).symm
      blk_point []
      all_goals exact h0.symm
    refine (dif_neg b3).trans ?_
    by_cases b4 : (x 1).val - 128 - 128 - 128 - 128 < 128
    · refine (dif_pos b4).trans ?_
      refine Eq.trans ?_ (dif_pos (show (y 1).val % 256 < 128 by omega)).symm
      blk_point []
      all_goals exact h0.symm
    refine (dif_neg b4).trans ?_
    by_cases b5 : (x 1).val - 128 - 128 - 128 - 128 - 128 < 128
    · refine (dif_pos b5).trans ?_
      refine Eq.trans ?_ (dif_neg (show ¬ (y 1).val % 256 < 128 by omega)).symm
      blk_point []
      all_goals exact h0.symm
    refine (dif_neg b5).trans ?_
    by_cases b6 : (x 1).val - 128 - 128 - 128 - 128 - 128 - 128 < 128
    · refine (dif_pos b6).trans ?_
      refine Eq.trans ?_ (dif_pos (show (y 1).val % 256 < 128 by omega)).symm
      blk_point []
      all_goals exact h0.symm
    refine (dif_neg b6).trans ?_
    refine Eq.trans ?_ (dif_neg (show ¬ (y 1).val % 256 < 128 by omega)).symm
    blk_point []
    all_goals exact h0.symm

set_option maxHeartbeats 1000000 in
/-- The rotated tile at a later point of a column of tiles, among the keys. -/
theorem out7_D (c : Dev nD) (t : Fin cfg0.N) (h0 : ¬t.val % 8 = 0) (h1 : 16 ≤ t.val) (y : S1024x1024.Idx) :
    (outsAt0 m c t.val t.isLt).1 y = rotS (k0_pay7 (iblk m c 0 t) (outsAt0 m c (t.val - 1) (Nat.lt_of_le_of_lt (Nat.sub_le _ _) t.isLt)).2.2.2.2) (iblk m c 2 t) (iblk m c 3 t) y * (k0_pay8 (grid0.coords t) : Ideal .f32) := by
  rw [outsAt0_D m c t h0 h1 h1 h1 h1]
  frame_open
  simp (disch := decide) only [↓ View.readCov_skip, ↓ View.readCov_cons_toLoadRect, ↓ View.readCov_fill]
  frame_out
  simp only [↓ read_unread_whole]
  generalize k0_pay7 (iblk m c 0 t) (outsAt0 m c (t.val - 1) (Nat.lt_of_le_of_lt (Nat.sub_le _ _) t.isLt)).2.2.2.2 = acc
  generalize (iblk m c 2 t : FVec Ideal S1024x128 .f32) = cs
  generalize (iblk m c 3 t : FVec Ideal S1024x128 .f32) = sn
  generalize (k0_pay8 (grid0.coords t) : Ideal .f32) = sc
  canon_tiles x h
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
    refine congrArg (· * sc) ?_
    unfold rotS
    by_cases b0 : (x 1).val < 128
    · refine (dif_pos b0).trans ?_
      refine Eq.trans ?_ (dif_pos (show (y 1).val % 256 < 128 by omega)).symm
      blk_point []
      all_goals exact h0.symm
    refine (dif_neg b0).trans ?_
    by_cases b1 : (x 1).val - 128 < 128
    · refine (dif_pos b1).trans ?_
      refine Eq.trans ?_ (dif_neg (show ¬ (y 1).val % 256 < 128 by omega)).symm
      blk_point []
      all_goals exact h0.symm
    refine (dif_neg b1).trans ?_
    by_cases b2 : (x 1).val - 128 - 128 < 128
    · refine (dif_pos b2).trans ?_
      refine Eq.trans ?_ (dif_pos (show (y 1).val % 256 < 128 by omega)).symm
      blk_point []
      all_goals exact h0.symm
    refine (dif_neg b2).trans ?_
    by_cases b3 : (x 1).val - 128 - 128 - 128 < 128
    · refine (dif_pos b3).trans ?_
      refine Eq.trans ?_ (dif_neg (show ¬ (y 1).val % 256 < 128 by omega)).symm
      blk_point []
      all_goals exact h0.symm
    refine (dif_neg b3).trans ?_
    by_cases b4 : (x 1).val - 128 - 128 - 128 - 128 < 128
    · refine (dif_pos b4).trans ?_
      refine Eq.trans ?_ (dif_pos (show (y 1).val % 256 < 128 by omega)).symm
      blk_point []
      all_goals exact h0.symm
    refine (dif_neg b4).trans ?_
    by_cases b5 : (x 1).val - 128 - 128 - 128 - 128 - 128 < 128
    · refine (dif_pos b5).trans ?_
      refine Eq.trans ?_ (dif_neg (show ¬ (y 1).val % 256 < 128 by omega)).symm
      blk_point []
      all_goals exact h0.symm
    refine (dif_neg b5).trans ?_
    by_cases b6 : (x 1).val - 128 - 128 - 128 - 128 - 128 - 128 < 128
    · refine (dif_pos b6).trans ?_
      refine Eq.trans ?_ (dif_pos (show (y 1).val % 256 < 128 by omega)).symm
      blk_point []
      all_goals exact h0.symm
    refine (dif_neg b6).trans ?_
    refine Eq.trans ?_ (dif_neg (show ¬ (y 1).val % 256 < 128 by omega)).symm
    blk_point []
    all_goals exact h0.symm

end Cert.RopeIdeal.Value
-- ==== Proof.RopeBlockK.lean ====
module

public import proofs.«01_k».proof.Proof.Gen.RopeIdeal.Value
public import proofs.«01_k».proof.Proof.RopeRot
public import Idealize.ShloMosaic.Lib.Pipeline.ValueKit
public import Idealize.ShloMosaic.Lib.Pointwise
public import Idealize.ShloMosaic.Lib.Pipeline.ReadBack

/-! What a grid point of the rotary projection leaves in its output blocks. -/

set_option maxRecDepth 16384

@[expose] public section

noncomputable section

namespace Cert.RopeIdeal.Value

open Idealize.ShloMosaic Idealize.ShloMosaic.TcCoe Idealize.SL.Sem
open Cert.RopeIdeal Cert.RopeIdeal.Gen

variable (m : (ℓ : Loc nD τ sig) → Buf (Elt Ideal) ℓ)

set_option maxHeartbeats 1000000 in
/-- The rotated tile, decayed to the end of its chunks, at a point that opens a column of tiles, among the keys. -/
theorem out8_C (c : Dev nD) (t : Fin cfg0.N) (h0 : t.val % 8 = 0) (h1 : 16 ≤ t.val) (y : S1024x1024.Idx) :
    (outsAt0 m c t.val t.isLt).2.1 y = rotS (k0_pay7 (iblk m c 0 t) (k0_pay6 (iblk m c 1 t))) (iblk m c 2 t) (iblk m c 3 t) y * (k0_pay8 (grid0.coords t) : Ideal .f32) * (iblk m c 4 t : FVec Ideal S256x1024 .f32) (ValueIdx.ix2 ⟨(y 0).val % 256, Nat.mod_lt _ (by omega)⟩ (y 1)) := by
  rw [outsAt0_C m c t h0 h1 h1 h1 h1]
  frame_open
  simp (disch := decide) only [↓ View.readCov_skip, ↓ View.readCov_cons_toLoadRect, ↓ View.readCov_fill]
  frame_out
  generalize k0_pay7 (iblk m c 0 t) (k0_pay6 (iblk m c 1 t)) = acc
  generalize (iblk m c 2 t : FVec Ideal S1024x128 .f32) = cs
  generalize (iblk m c 3 t : FVec Ideal S1024x128 .f32) = sn
  generalize (iblk m c 4 t : FVec Ideal S256x1024 .f32) = kd
  generalize (k0_pay8 (grid0.coords t) : Ideal .f32) = sc
  canon_tiles x h
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
    refine congrArg₂ (· * ·) (congrArg (· * sc) ?_) ?_
    on_goal 2 => (blk_point []; all_goals exact h1.symm)
    unfold rotS
    by_cases b0 : (x 1).val < 128
    · refine (dif_pos b0).trans ?_
      refine Eq.trans ?_ (dif_pos (show (y 1).val % 256 < 128 by omega)).symm
      blk_point []
      all_goals exact h0.symm
    refine (dif_neg b0).trans ?_
    by_cases b1 : (x 1).val - 128 < 128
    · refine (dif_pos b1).trans ?_
      refine Eq.trans ?_ (dif_neg (show ¬ (y 1).val % 256 < 128 by omega)).symm
      blk_point []
      all_goals exact h0.symm
    refine (dif_neg b1).trans ?_
    by_cases b2 : (x 1).val - 128 - 128 < 128
    · refine (dif_pos b2).trans ?_
      refine Eq.trans ?_ (dif_pos (show (y 1).val % 256 < 128 by omega)).symm
      blk_point []
      all_goals exact h0.symm
    refine (dif_neg b2).trans ?_
    by_cases b3 : (x 1).val - 128 - 128 - 128 < 128
    · refine (dif_pos b3).trans ?_
      refine Eq.trans ?_ (dif_neg (show ¬ (y 1).val % 256 < 128 by omega)).symm
      blk_point []
      all_goals exact h0.symm
    refine (dif_neg b3).trans ?_
    by_cases b4 : (x 1).val - 128 - 128 - 128 - 128 < 128
    · refine (dif_pos b4).trans ?_
      refine Eq.trans ?_ (dif_pos (show (y 1).val % 256 < 128 by omega)).symm
      blk_point []
      all_goals exact h0.symm
    refine (dif_neg b4).trans ?_
    by_cases b5 : (x 1).val - 128 - 128 - 128 - 128 - 128 < 128
    · refine (dif_pos b5).trans ?_
      refine Eq.trans ?_ (dif_neg (show ¬ (y 1).val % 256 < 128 by omega)).symm
      blk_point []
      all_goals exact h0.symm
    refine (dif_neg b5).trans ?_
    by_cases b6 : (x 1).val - 128 - 128 - 128 - 128 - 128 - 128 < 128
    · refine (dif_pos b6).trans ?_
      refine Eq.trans ?_ (dif_pos (show (y 1).val % 256 < 128 by omega)).symm
      blk_point []
      all_goals exact h0.symm
    refine (dif_neg b6).trans ?_
    refine Eq.trans ?_ (dif_neg (show ¬ (y 1).val % 256 < 128 by omega)).symm
    blk_point []
    all_goals exact h0.symm

set_option maxHeartbeats 1000000 in
/-- The rotated tile, decayed to the end of its chunks, at a later point of a column of tiles, among the keys. -/
theorem out8_D (c : Dev nD) (t : Fin cfg0.N) (h0 : ¬t.val % 8 = 0) (h1 : 16 ≤ t.val) (y : S1024x1024.Idx) :
    (outsAt0 m c t.val t.isLt).2.1 y = rotS (k0_pay7 (iblk m c 0 t) (outsAt0 m c (t.val - 1) (Nat.lt_of_le_of_lt (Nat.sub_le _ _) t.isLt)).2.2.2.2) (iblk m c 2 t) (iblk m c 3 t) y * (k0_pay8 (grid0.coords t) : Ideal .f32) * (iblk m c 4 t : FVec Ideal S256x1024 .f32) (ValueIdx.ix2 ⟨(y 0).val % 256, Nat.mod_lt _ (by omega)⟩ (y 1)) := by
  rw [outsAt0_D m c t h0 h1 h1 h1 h1]
  frame_open
  simp (disch := decide) only [↓ View.readCov_skip, ↓ View.readCov_cons_toLoadRect, ↓ View.readCov_fill]
  frame_out
  simp only [↓ read_unread_whole]
  generalize k0_pay7 (iblk m c 0 t) (outsAt0 m c (t.val - 1) (Nat.lt_of_le_of_lt (Nat.sub_le _ _) t.isLt)).2.2.2.2 = acc
  generalize (iblk m c 2 t : FVec Ideal S1024x128 .f32) = cs
  generalize (iblk m c 3 t : FVec Ideal S1024x128 .f32) = sn
  generalize (iblk m c 4 t : FVec Ideal S256x1024 .f32) = kd
  generalize (k0_pay8 (grid0.coords t) : Ideal .f32) = sc
  canon_tiles x h
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30]
    refine congrArg₂ (· * ·) (congrArg (· * sc) ?_) ?_
    on_goal 2 => (blk_point []; all_goals exact h1.symm)
    unfold rotS
    by_cases b0 : (x 1).val < 128
    · refine (dif_pos b0).trans ?_
      refine Eq.trans ?_ (dif_pos (show (y 1).val % 256 < 128 by omega)).symm
      blk_point []
      all_goals exact h0.symm
    refine (dif_neg b0).trans ?_
    by_cases b1 : (x 1).val - 128 < 128
    · refine (dif_pos b1).trans ?_
      refine Eq.trans ?_ (dif_neg (show ¬ (y 1).val % 256 < 128 by omega)).symm
      blk_point []
      all_goals exact h0.symm
    refine (dif_neg b1).trans ?_
    by_cases b2 : (x 1).val - 128 - 128 < 128
    · refine (dif_pos b2).trans ?_
      refine Eq.trans ?_ (dif_pos (show (y 1).val % 256 < 128 by omega)).symm
      blk_point []
      all_goals exact h0.symm
    refine (dif_neg b2).trans ?_
    by_cases b3 : (x 1).val - 128 - 128 - 128 < 128
    · refine (dif_pos b3).trans ?_
      refine Eq.trans ?_ (dif_neg (show ¬ (y 1).val % 256 < 128 by omega)).symm
      blk_point []
      all_goals exact h0.symm
    refine (dif_neg b3).trans ?_
    by_cases b4 : (x 1).val - 128 - 128 - 128 - 128 < 128
    · refine (dif_pos b4).trans ?_
      refine Eq.trans ?_ (dif_pos (show (y 1).val % 256 < 128 by omega)).symm
      blk_point []
      all_goals exact h0.symm
    refine (dif_neg b4).trans ?_
    by_cases b5 : (x 1).val - 128 - 128 - 128 - 128 - 128 < 128
    · refine (dif_pos b5).trans ?_
      refine Eq.trans ?_ (dif_neg (show ¬ (y 1).val % 256 < 128 by omega)).symm
      blk_point []
      all_goals exact h0.symm
    refine (dif_neg b5).trans ?_
    by_cases b6 : (x 1).val - 128 - 128 - 128 - 128 - 128 - 128 < 128
    · refine (dif_pos b6).trans ?_
      refine Eq.trans ?_ (dif_pos (show (y 1).val % 256 < 128 by omega)).symm
      blk_point []
      all_goals exact h0.symm
    refine (dif_neg b6).trans ?_
    refine Eq.trans ?_ (dif_neg (show ¬ (y 1).val % 256 < 128 by omega)).symm
    blk_point []
    all_goals exact h0.symm

end Cert.RopeIdeal.Value
-- ==== Proof.RopeValue.lean ====
module

public import proofs.«01_k».proof.Proof.RopeIdx
public import proofs.«01_k».proof.Proof.RopeBlockA
public import proofs.«01_k».proof.Proof.RopeBlockB
public import proofs.«01_k».proof.Proof.RopeBlockC
public import proofs.«01_k».proof.Proof.RopeBlockK
public import Idealize.ShloMosaic.Lib.Pipeline.ValueKit
public import Idealize.ShloMosaic.Lib.Pointwise
public import Idealize.ShloMosaic.Lib.Pipeline.ReadBack

/-! The rotated queries and keys after the kernel's grid. -/

set_option maxRecDepth 16384

@[expose] public section

noncomputable section

namespace Cert.RopeIdeal.Value

open Idealize.ShloMosaic Idealize.ShloMosaic.TcCoe Idealize.SL.Sem
open Cert.RopeIdeal Cert.RopeIdeal.Gen

variable (m : (ℓ : Loc nD τ sig) → Buf (Elt Ideal) ℓ)

/-- The queries and the scaled keys as one array. -/
def qkA (a0 : FVec Ideal S8192x2048 .bf16) (a1 : FVec Ideal S2048x20480 .f32) : FVec Ideal S8192x4096 .bf16 :=
  fun i => Cert.Rotary.qkR a0 a1 ⟨(i 0).val, (i 0).isLt⟩ ⟨(i 1).val, (i 1).isLt⟩

/-- The decayed keys as one array. -/
def kkA (a0 : FVec Ideal S8192x2048 .bf16) (a1 : FVec Ideal S2048x20480 .f32) : FVec Ideal S8192x2048 .bf16 :=
  fun i => Cert.Rotary.kkR a0 a1 ⟨(i 0).val, (i 0).isLt⟩ ⟨(i 1).val, (i 1).isLt⟩

/-- What a point writes to the queries and keys. -/
theorem tile7 (c : Dev nD) (t : Fin cfg0.N) (y : S1024x1024.Idx) (r : Fin 8192) (l : Fin 4096)
    (hr : r.val = t.val % 8 * 1024 + (y 0).val) (hl : l.val = t.val / 8 * 1024 + (y 1).val) :
    (outsAt0 m c t.val t.isLt).1 y = Cert.Rotary.qkR (m ((c : Thread nD τ).loc main_arg0)) (m ((c : Thread nD τ).loc main_arg1)) r l := by
  have y1 : (y 1).val < 1024 := (y 1).isLt
  unfold Cert.Rotary.qkR
  by_cases h1 : 16 ≤ t.val
  · rw [if_neg (by omega)]
    by_cases h0 : t.val % 8 = 0
    · rw [out7_C m c t h0 h1 y, rot_blk m c t _ (acc_open m c t) y r l hr hl, scale_k t h1]
    · rw [out7_D m c t h0 h1 y, rot_blk m c t _ (acc_later m c t h0) y r l hr hl, scale_k t h1]
  · rw [if_pos (by omega)]
    by_cases h0 : t.val % 8 = 0
    · rw [out7_A m c t h0 h1 y, rot_blk m c t _ (acc_open m c t) y r l hr hl, scale_q t h1]
      exact mul_one _
    · rw [out7_B m c t h0 h1 y, rot_blk m c t _ (acc_later m c t h0) y r l hr hl, scale_q t h1]
      exact mul_one _

/-- What a point among the keys writes to the decayed keys. -/
theorem tile8 (c : Dev nD) (t : Fin cfg0.N) (h1 : 16 ≤ t.val) (y : S1024x1024.Idx) (r : Fin 8192) (l : Fin 2048)
    (hr : r.val = t.val % 8 * 1024 + (y 0).val) (hl : l.val = (t.val / 8 - 2) * 1024 + (y 1).val) :
    (outsAt0 m c t.val t.isLt).2.1 y = Cert.Rotary.kkR (m ((c : Thread nD τ).loc main_arg0)) (m ((c : Thread nD τ).loc main_arg1)) r l := by
  have y1 : (y 1).val < 1024 := (y 1).isLt
  have y0 : (y 0).val < 1024 := (y 0).isLt
  have hk : (iblk m c 4 t : FVec Ideal S256x1024 .f32) (ValueIdx.ix2 ⟨(y 0).val % 256, Nat.mod_lt _ (by omega)⟩ (y 1))
      = (Cert.Rotary.kdec (r.val % 256) (l.val / 256) : EReal) := by
    refine (kd_blk m c t h1 ⟨(y 0).val % 256, Nat.mod_lt _ (by omega)⟩ (y 1)).trans ?_
    rw [← hl]
    exact congrArg (fun q => (Cert.Rotary.kdec q (l.val / 256) : EReal)) (show (y 0).val % 256 = r.val % 256 by omega)
  have hl' : (2048 + l.val) = t.val / 8 * 1024 + (y 1).val := by omega
  unfold Cert.Rotary.kkR
  by_cases h0 : t.val % 8 = 0
  · rw [out8_C m c t h0 h1 y, hk, rot_blk m c t _ (acc_open m c t) y r ⟨2048 + l.val, by omega⟩ hr hl', scale_k t h1]
  · rw [out8_D m c t h0 h1 y, hk, rot_blk m c t _ (acc_later m c t h0) y r ⟨2048 + l.val, by omega⟩ hr hl', scale_k t h1]

/-- The queries and keys after the grid. -/
theorem final7 (c : Dev nD) : (dats m 0 c).arrAt 7 (cfgs 0).N
    = qkA (m ((c : Thread nD τ).loc main_arg0)) (m ((c : Thread nD τ).loc main_arg1)) := by
  refine (dats m 0 c).arrAt_eq_of_covers 7 _ (by decide +kernel) fun t _ y => ?_
  blk_simp
  rw [after0_7]
  refine tile7 m c t y _ _ ?_ ?_
  · blk_simp [idx t]
  · blk_simp [idx t]

/-- The decayed keys after the grid. -/
theorem final8 (c : Dev nD) : (dats m 0 c).arrAt 8 (cfgs 0).N
    = kkA (m ((c : Thread nD τ).loc main_arg0)) (m ((c : Thread nD τ).loc main_arg1)) := by
  refine (dats m 0 c).arrAt_eq_of_covers 8 _ (by decide +kernel) fun t hf y => ?_
  have h1 : 16 ≤ t.val := flush8 t hf
  blk_simp
  rw [after0_8]
  refine tile8 m c t h1 y _ _ ?_ ?_
  · blk_simp [idx8 t h1]
  · blk_simp [idx8 t h1]

end Cert.RopeIdeal.Value
-- ==== Proof.RopeCast.lean ====
module

public import proofs.«01_k».proof.Proof.RopeIdx
public import Idealize.ShloMosaic.Lib.Pipeline.ValueKit
public import Idealize.ShloMosaic.Lib.Pointwise
public import Idealize.ShloMosaic.Lib.Pipeline.ReadBack

/-! The cast weights after the kernel's grid. -/

set_option maxRecDepth 16384

@[expose] public section

noncomputable section

namespace Cert.RopeIdeal.Value

open Idealize.ShloMosaic Idealize.ShloMosaic.TcCoe Idealize.SL.Sem
open Cert.RopeIdeal Cert.RopeIdeal.Gen

variable (m : (ℓ : Loc nD τ sig) → Buf (Elt Ideal) ℓ)

/-- The first of the weights cast along, at a point that opens a column of tiles, among the queries. -/
theorem cast9_A (c : Dev nD) (t : Fin cfg0.N) (h0 : t.val % 8 = 0) (h1 : ¬16 ≤ t.val) (y : S128x2048.Idx) :
    (outsAt0 m c t.val t.isLt).2.2.1 y = (iblk m c 5 t : FVec Ideal S128x2048 .f32) y := by
  rw [outsAt0_A m c t h0 h1 h1 h1 h1]
  dsimp only
  frame_out
  pointwise [k0_pay4]

/-- The first of the weights cast along, at a later point of a column of tiles, among the queries. -/
theorem cast9_B (c : Dev nD) (t : Fin cfg0.N) (h0 : ¬t.val % 8 = 0) (h1 : ¬16 ≤ t.val) (y : S128x2048.Idx) :
    (outsAt0 m c t.val t.isLt).2.2.1 y = (iblk m c 5 t : FVec Ideal S128x2048 .f32) y := by
  rw [outsAt0_B m c t h0 h1 h1 h1 h1]
  dsimp only
  frame_out
  pointwise [k0_pay4]

/-- The first of the weights cast along, at a point that opens a column of tiles, among the keys. -/
theorem cast9_C (c : Dev nD) (t : Fin cfg0.N) (h0 : t.val % 8 = 0) (h1 : 16 ≤ t.val) (y : S128x2048.Idx) :
    (outsAt0 m c t.val t.isLt).2.2.1 y = (iblk m c 5 t : FVec Ideal S128x2048 .f32) y := by
  rw [outsAt0_C m c t h0 h1 h1 h1 h1]
  dsimp only
  frame_out
  pointwise [k0_pay4]

/-- The first of the weights cast along, at a later point of a column of tiles, among the keys. -/
theorem cast9_D (c : Dev nD) (t : Fin cfg0.N) (h0 : ¬t.val % 8 = 0) (h1 : 16 ≤ t.val) (y : S128x2048.Idx) :
    (outsAt0 m c t.val t.isLt).2.2.1 y = (iblk m c 5 t : FVec Ideal S128x2048 .f32) y := by
  rw [outsAt0_D m c t h0 h1 h1 h1 h1]
  dsimp only
  frame_out
  pointwise [k0_pay4]

/-- The second of the weights cast along, at a point that opens a column of tiles, among the queries. -/
theorem cast10_A (c : Dev nD) (t : Fin cfg0.N) (h0 : t.val % 8 = 0) (h1 : ¬16 ≤ t.val) (y : S64x2048.Idx) :
    (outsAt0 m c t.val t.isLt).2.2.2.1 y = (iblk m c 6 t : FVec Ideal S64x2048 .f32) y := by
  rw [outsAt0_A m c t h0 h1 h1 h1 h1]
  dsimp only
  frame_out
  pointwise [k0_pay5]

/-- The second of the weights cast along, at a later point of a column of tiles, among the queries. -/
theorem cast10_B (c : Dev nD) (t : Fin cfg0.N) (h0 : ¬t.val % 8 = 0) (h1 : ¬16 ≤ t.val) (y : S64x2048.Idx) :
    (outsAt0 m c t.val t.isLt).2.2.2.1 y = (iblk m c 6 t : FVec Ideal S64x2048 .f32) y := by
  rw [outsAt0_B m c t h0 h1 h1 h1 h1]
  dsimp only
  frame_out
  pointwise [k0_pay5]

/-- The second of the weights cast along, at a point that opens a column of tiles, among the keys. -/
theorem cast10_C (c : Dev nD) (t : Fin cfg0.N) (h0 : t.val % 8 = 0) (h1 : 16 ≤ t.val) (y : S64x2048.Idx) :
    (outsAt0 m c t.val t.isLt).2.2.2.1 y = (iblk m c 6 t : FVec Ideal S64x2048 .f32) y := by
  rw [outsAt0_C m c t h0 h1 h1 h1 h1]
  dsimp only
  frame_out
  pointwise [k0_pay5]

/-- The second of the weights cast along, at a later point of a column of tiles, among the keys. -/
theorem cast10_D (c : Dev nD) (t : Fin cfg0.N) (h0 : ¬t.val % 8 = 0) (h1 : 16 ≤ t.val) (y : S64x2048.Idx) :
    (outsAt0 m c t.val t.isLt).2.2.2.1 y = (iblk m c 6 t : FVec Ideal S64x2048 .f32) y := by
  rw [outsAt0_D m c t h0 h1 h1 h1 h1]
  dsimp only
  frame_out
  pointwise [k0_pay5]

/-- The third argument's cast after the grid. -/
theorem final9 (c : Dev nD) : (dats m 0 c).arrAt 9 (cfgs 0).N
    = (truncf .bf16 (m ((c : Thread nD τ).loc main_arg2) : FVec Ideal S4096x2048 .f32) bitsLt_bf16_f32 : FVec Ideal S4096x2048 .bf16) := by
  refine (dats m 0 c).arrAt_eq_of_covers 9 _ (by decide +kernel) fun t _ y => ?_
  blk_simp
  rw [after0_9]
  have e : (outsAt0 m c t.val t.isLt).2.2.1 y = (iblk m c 5 t : FVec Ideal S128x2048 .f32) y := by
    by_cases h1 : 16 ≤ t.val <;> by_cases h0 : t.val % 8 = 0
    · exact cast9_C m c t h0 h1 y
    · exact cast9_D m c t h0 h1 y
    · exact cast9_A m c t h0 h1 y
    · exact cast9_B m c t h0 h1 y
  refine e.trans ?_
  blk_point [iblk, V, idx t]

/-- The fourth argument's cast after the grid. -/
theorem final10 (c : Dev nD) : (dats m 0 c).arrAt 10 (cfgs 0).N
    = (truncf .bf16 (m ((c : Thread nD τ).loc main_arg3) : FVec Ideal S2048x2048 .f32) bitsLt_bf16_f32 : FVec Ideal S2048x2048 .bf16) := by
  refine (dats m 0 c).arrAt_eq_of_covers 10 _ (by decide +kernel) fun t _ y => ?_
  blk_simp
  rw [after0_10]
  have e : (outsAt0 m c t.val t.isLt).2.2.2.1 y = (iblk m c 6 t : FVec Ideal S64x2048 .f32) y := by
    by_cases h1 : 16 ≤ t.val <;> by_cases h0 : t.val % 8 = 0
    · exact cast10_C m c t h0 h1 y
    · exact cast10_D m c t h0 h1 y
    · exact cast10_A m c t h0 h1 y
    · exact cast10_B m c t h0 h1 y
  refine e.trans ?_
  blk_point [iblk, V, idx t]

end Cert.RopeIdeal.Value
-- ==== Proof.RopeRefAt.lean ====
module

public import proofs.«01_k».proof.Proof.Gen.RopeRefIdeal.Run
public import proofs.«01_k».proof.Proof.Rotary
public import Idealize.ShloMosaic.Lib.Pipeline.ValueKit
public import Idealize.ShloMosaic.Lib.Pointwise
public import Idealize.ShloMosaic.Lib.Pipeline.ReadBack

/-! The reference's rotated queries and keys, read at an index. -/

set_option maxRecDepth 16384

@[expose] public section

noncomputable section

namespace Cert.RopeRefIdeal.At

open Idealize.ShloMosaic Idealize.ShloMosaic.TcCoe Idealize.SL.Sem
open Cert.RopeRefIdeal Cert.RopeRefIdeal.Gen

variable (m : (ℓ : Loc nD τ sig) → Buf (Elt Ideal) ℓ)

/-- The cosines of the angles. -/
abbrev cosT : FVec Ideal S2048x128 .f32 := Host.cos (mulf (broadcastInDim S2048x128 ![0, 1] bcast_S2048x1_S2048x128_0_1 (broadcastInDim S2048x1 ![0] bcast_S2048_S2048x1_0 (sitofp .f32 (iotaInDim S2048 32 0)))) (broadcastInDim S2048x128 ![0, 1] bcast_S1x128_S2048x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32)))))))

/-- The sines of the angles. -/
abbrev sinT : FVec Ideal S2048x128 .f32 := Host.sin (mulf (broadcastInDim S2048x128 ![0, 1] bcast_S2048x1_S2048x128_0_1 (broadcastInDim S2048x1 ![0] bcast_S2048_S2048x1_0 (sitofp .f32 (iotaInDim S2048 32 0)))) (broadcastInDim S2048x128 ![0, 1] bcast_S1x128_S2048x128_0_1 (broadcastInDim S1x128 ![1] bcast_S128_S1x128_1 (Host.powf (broadcastInDim S128 ![] bcast_S_S128 (constant S_ .f32 0x461C4000#32)) (Host.divf (Host.negf (sitofp .f32 (iotaInDim S128 32 0))) (broadcastInDim S128 ![] bcast_S_S128 (constant S_ .f32 0x43000000#32)))))))

/-- Every head of an array rotated by the angles of its row. -/
def rotT (z : FVec Ideal S8192x2048 .f32) (cs sn : FVec Ideal S2048x128 .f32) : FVec Ideal S4x2048x8x256 .f32 :=
  concatenate S4x2048x8x256 3 [⟨S4x2048x8x128, (subf (mulf (extractStridedSlice S4x2048x8x128 ![0, 0, 0, 0] (shapeCast _ z shapeCasts_S8192x2048_S4x2048x8x256) slices_S4x2048x8x256_S4x2048x8x128_0_0_0_0) (broadcastInDim S4x2048x8x128 ![0, 1, 2, 3] bcast_S1x2048x1x128_S4x2048x8x128_0_1_2_3 (broadcastInDim S1x2048x1x128 ![1, 3] bcast_S2048x128_S1x2048x1x128_1_3 cs))) (mulf (extractStridedSlice S4x2048x8x128 ![0, 0, 0, 128] (shapeCast _ z shapeCasts_S8192x2048_S4x2048x8x256) slices_S4x2048x8x256_S4x2048x8x128_0_0_0_128) (broadcastInDim S4x2048x8x128 ![0, 1, 2, 3] bcast_S1x2048x1x128_S4x2048x8x128_0_1_2_3 (broadcastInDim S1x2048x1x128 ![1, 3] bcast_S2048x128_S1x2048x1x128_1_3 sn))))⟩, ⟨S4x2048x8x128, (addf (mulf (extractStridedSlice S4x2048x8x128 ![0, 0, 0, 0] (shapeCast _ z shapeCasts_S8192x2048_S4x2048x8x256) slices_S4x2048x8x256_S4x2048x8x128_0_0_0_0) (broadcastInDim S4x2048x8x128 ![0, 1, 2, 3] bcast_S1x2048x1x128_S4x2048x8x128_0_1_2_3 (broadcastInDim S1x2048x1x128 ![1, 3] bcast_S2048x128_S1x2048x1x128_1_3 sn))) (mulf (extractStridedSlice S4x2048x8x128 ![0, 0, 0, 128] (shapeCast _ z shapeCasts_S8192x2048_S4x2048x8x256) slices_S4x2048x8x256_S4x2048x8x128_0_0_0_128) (broadcastInDim S4x2048x8x128 ![0, 1, 2, 3] bcast_S1x2048x1x128_S4x2048x8x128_0_1_2_3 (broadcastInDim S1x2048x1x128 ![1, 3] bcast_S2048x128_S1x2048x1x128_1_3 cs))))⟩] concatenates_S4x2048x8x128_S4x2048x8x128_S4x2048x8x256_d3

/-- The cosines, read at an index. -/
theorem cosT_at (n : Fin 2048) (d : Fin 128) : cosT (ValueIdx.ix2 n d) = (Ideal.cos (Cert.Rotary.ang n.val d.val) : EReal) := by
  pointwise [cosT, Cert.Rotary.ang]

/-- The sines, read at an index. -/
theorem sinT_at (n : Fin 2048) (d : Fin 128) : sinT (ValueIdx.ix2 n d) = (Ideal.sin (Cert.Rotary.ang n.val d.val) : EReal) := by
  pointwise [sinT, Cert.Rotary.ang]

/-- A rotated head, read at an index. -/
theorem rotT_at (z : FVec Ideal S8192x2048 .f32) (cs sn : FVec Ideal S2048x128 .f32) (b : Fin 4) (n : Fin 2048) (h : Fin 8) (d : Fin 256) :
    rotT z cs sn (ValueIdx.ix4 b n h d)
      = if g : d.val < 128 then
          z (ValueIdx.ix2 ⟨b.val * 2048 + n.val, by omega⟩ ⟨h.val * 256 + d.val, by omega⟩) * cs (ValueIdx.ix2 n ⟨d.val, g⟩)
            - z (ValueIdx.ix2 ⟨b.val * 2048 + n.val, by omega⟩ ⟨h.val * 256 + (d.val + 128), by omega⟩) * sn (ValueIdx.ix2 n ⟨d.val, g⟩)
        else
          (z (ValueIdx.ix2 ⟨b.val * 2048 + n.val, by omega⟩ ⟨h.val * 256 + (d.val - 128), by omega⟩) * sn (ValueIdx.ix2 n ⟨d.val - 128, by omega⟩)
            + z (ValueIdx.ix2 ⟨b.val * 2048 + n.val, by omega⟩ ⟨h.val * 256 + d.val, by omega⟩) * cs (ValueIdx.ix2 n ⟨d.val - 128, by omega⟩) : EReal) := by
  unfold rotT
  pointwise []
  by_cases g : d.val < 128
  · refine (dif_pos g).trans (Eq.trans ?_ (dif_pos g).symm)
    blk_point []
    all_goals
      show h.val * 256 + (128 + d.val) = h.val * 256 + (d.val + 128)
      omega
  · refine (dif_neg g).trans (Eq.trans ?_ (dif_neg g).symm)
    blk_point []
    all_goals
      show h.val * 256 + (128 + (d.val - 128)) = h.val * 256 + d.val
      omega

/-- The columns of the product that are rotated, from an offset on. -/
abbrev cols (a0 : FVec Ideal S8192x2048 .bf16) (a1 : FVec Ideal S2048x20480 .f32) (o : ℕ) (h : S8192x20480.Slices ![0, o] S8192x2048) : FVec Ideal S8192x2048 .f32 :=
  extractStridedSlice S8192x2048 ![0, o] (Host.dotGeneral (φ₂ := .f32) dot_S8192x2048_S2048x20480_S8192x20480_1_0_0_1_n_n none (extf .f32 a0 bitsLt_bf16_f32) a1) h

/-- The decay of the keys, of a row of a chunk and a head. -/
def kdT : FVec Ideal S256x8 .f32 :=
  Host.exp (mulf (broadcastInDim S256x8 ![0, 1] bcast_S256x1_S256x8_0_1 (broadcastInDim S256x1 ![0] bcast_S256_S256x1_0 (subf (broadcastInDim S256 ![] bcast_S_S256 (constant S_ .f32 0x437F0000#32)) (sitofp .f32 (iotaInDim S256 32 0))))) (broadcastInDim S256x8 ![0, 1] bcast_S1x8_S256x8_0_1 (broadcastInDim S1x8 ![1] bcast_S8_S1x8_1 (Host.log1p (Host.negf (Host.exp (mulf (broadcastInDim S8 ![] bcast_S_S8 (constant S_ .f32 0x3F317218#32)) (subf (broadcastInDim S8 ![] bcast_S_S8 (constant S_ .f32 0xC0A00000#32)) (sitofp .f32 (iotaInDim S8 32 0))))))))))

/-- The rotated queries and the scaled keys, side by side. -/
def qkT (zq zk : FVec Ideal S4x2048x8x256 .f32) : FVec Ideal S8192x4096 .bf16 :=
  truncf .bf16 (concatenate S8192x4096 1 [⟨S8192x2048, (shapeCast _ zq shapeCasts_S4x2048x8x256_S8192x2048)⟩, ⟨S8192x2048, (shapeCast _ (mulf zk (broadcastInDim S4x2048x8x256 ![] bcast_S_S4x2048x8x256 (constant S_ .f32 0x3D800000#32))) shapeCasts_S4x2048x8x256_S8192x2048)⟩] concatenates_S8192x2048_S8192x2048_S8192x4096_d1) bitsLt_bf16_f32

/-- The scaled keys, decayed. -/
def kkT (zk : FVec Ideal S4x2048x8x256 .f32) : FVec Ideal S8192x2048 .bf16 :=
  truncf .bf16 (shapeCast _ (mulf (shapeCast _ (mulf zk (broadcastInDim S4x2048x8x256 ![] bcast_S_S4x2048x8x256 (constant S_ .f32 0x3D800000#32))) shapeCasts_S4x2048x8x256_S4x8x256x8x256) (broadcastInDim S4x8x256x8x256 ![0, 1, 2, 3, 4] bcast_S1x1x256x8x1_S4x8x256x8x256_0_1_2_3_4 (broadcastInDim S1x1x256x8x1 ![2, 3, 4] bcast_S256x8x1_S1x1x256x8x1_2_3_4 (broadcastInDim S256x8x1 ![0, 1] bcast_S256x8_S256x8x1_0_1 kdT)))) shapeCasts_S4x8x256x8x256_S8192x2048) bitsLt_bf16_f32

/-- The queries and keys as the rotated heads. -/
theorem res91 (c : Dev nD) : (Cert.RopeRefIdeal.Value.res_main_v91 m c : FVec Ideal S8192x4096 .bf16) =
    qkT (rotT (cols (m ((c.tc : Thread nD τ).loc main_arg0)) (m ((c.tc : Thread nD τ).loc main_arg1)) 0 slices_S8192x20480_S8192x2048_0_0) cosT sinT) (rotT (cols (m ((c.tc : Thread nD τ).loc main_arg0)) (m ((c.tc : Thread nD τ).loc main_arg1)) 2048 slices_S8192x20480_S8192x2048_0_2048) cosT sinT) := rfl

/-- The decayed keys as the rotated heads. -/
theorem res93 (c : Dev nD) : (Cert.RopeRefIdeal.Value.res_main_v93 m c : FVec Ideal S8192x2048 .bf16) =
    kkT (rotT (cols (m ((c.tc : Thread nD τ).loc main_arg0)) (m ((c.tc : Thread nD τ).loc main_arg1)) 2048 slices_S8192x20480_S8192x2048_0_2048) cosT sinT) := rfl

end Cert.RopeRefIdeal.At
-- ==== Proof.RopeRefVal.lean ====
module

public import proofs.«01_k».proof.Proof.RopeRefAt
public import Idealize.ShloMosaic.Lib.Pipeline.ValueKit
public import Idealize.ShloMosaic.Lib.Pointwise

/-! The reference's rotated queries and keys are the rotary projection. -/

set_option maxRecDepth 16384

@[expose] public section

noncomputable section

namespace Cert.RopeRefIdeal.At

open Idealize.ShloMosaic Idealize.ShloMosaic.TcCoe Idealize.SL.Sem
open Cert.RopeRefIdeal Cert.RopeRefIdeal.Gen

variable (m : (ℓ : Loc nD τ sig) → Buf (Elt Ideal) ℓ)

/-- The rotated columns from an offset on are the rotary projection. -/
theorem rot_cols (a0 : FVec Ideal S8192x2048 .bf16) (a1 : FVec Ideal S2048x20480 .f32) (o : ℕ) (ho : o + 2048 ≤ 4096) (ho8 : o % 256 = 0) (hsl)
    (b : Fin 4) (n : Fin 2048) (h : Fin 8) (d : Fin 256) (r : Fin 8192) (l : Fin 4096)
    (hr : r.val = b.val * 2048 + n.val) (hl : l.val = o + (h.val * 256 + d.val)) :
    rotT (cols a0 a1 o hsl) cosT sinT (ValueIdx.ix4 b n h d) = Cert.Rotary.rotR a0 a1 r l := by
  have hz : ∀ (i : Fin 8192) (j : Fin 2048) (l : Fin 4096), i.val = r.val → l.val = o + j.val →
      cols a0 a1 o hsl (ValueIdx.ix2 i j) = Cert.Rotary.prodR a0 a1 r l := by
    intro i j l hi hj
    pointwise [cols, Cert.Rotary.prodR]
    blk_point []
    all_goals first
      | exact hi
      | (show o + j.val = l.val; omega)
  rw [rotT_at]
  unfold Cert.Rotary.rotR
  have er : r.val % 2048 = n.val := by omega
  by_cases g : d.val < 128
  · rw [dif_pos g, dif_pos (show l.val % 256 < 128 by omega), cosT_at, sinT_at, er,
      hz _ _ l hr.symm hl, hz _ _ ⟨l.val + 128, by omega⟩ hr.symm (by show l.val + 128 = o + (h.val * 256 + (d.val + 128)); omega)]
    rw [show l.val % 128 = d.val by omega]
  · rw [dif_neg g, dif_neg (show ¬ l.val % 256 < 128 by omega), cosT_at, sinT_at, er,
      hz _ ⟨h.val * 256 + (d.val - 128), by omega⟩ ⟨l.val - 128, by omega⟩ hr.symm (by show l.val - 128 = o + (h.val * 256 + (d.val - 128)); omega), hz _ _ l hr.symm hl]
    rw [show l.val % 128 = d.val - 128 by omega]

/-- The decay of the keys, read at an index. -/
theorem kdT_at (i : Fin 256) (h : Fin 8) : kdT (ValueIdx.ix2 i h) = Cert.Rotary.kdec i.val h.val := by
  unfold kdT
  pointwise [Cert.Rotary.kdec]

/-- The decayed keys, read at an index. -/
theorem kkT_at (zk : FVec Ideal S4x2048x8x256 .f32) (r : Fin 8192) (l : Fin 2048) :
    kkT zk (ValueIdx.ix2 r l) = zk (ValueIdx.ix4 ⟨r.val / 2048, by omega⟩ ⟨r.val % 2048, by omega⟩ ⟨l.val / 256, by omega⟩ ⟨l.val % 256, by omega⟩)
      * Ideal.ofBits .f32 1031798784#32 * Cert.Rotary.kdec (r.val % 256) (l.val / 256) := by
  refine Eq.trans ?_ (congrArg (fun q : EReal => _ * q) (kdT_at ⟨r.val % 256, by omega⟩ ⟨l.val / 256, by omega⟩))
  generalize hk : kdT = kd
  unfold kkT
  rw [hk]
  clear hk
  pointwise []
  refine congrArg₂ (fun a b : EReal => a * b) (congrArg (fun q : EReal => q * Ideal.ofBits .f32 1031798784#32) ?_) ?_
  · blk_point []
    all_goals
      show r.val / 256 % 8 * 256 + r.val % 256 = r.val % 2048
      omega
  · blk_point []

/-- The queries and the keys side by side, read at an index. -/
theorem qkT_at (zq zk : FVec Ideal S4x2048x8x256 .f32) (r : Fin 8192) (l : Fin 4096) :
    qkT zq zk (ValueIdx.ix2 r l) = if g : l.val < 2048 then
        zq (ValueIdx.ix4 ⟨r.val / 2048, by omega⟩ ⟨r.val % 2048, by omega⟩ ⟨l.val / 256, by omega⟩ ⟨l.val % 256, by omega⟩)
      else (zk (ValueIdx.ix4 ⟨r.val / 2048, by omega⟩ ⟨r.val % 2048, by omega⟩ ⟨(l.val - 2048) / 256, by omega⟩ ⟨(l.val - 2048) % 256, by omega⟩)
        * Ideal.ofBits .f32 1031798784#32 : EReal) := by
  unfold qkT
  pointwise []
  by_cases g : l.val < 2048
  · refine (dif_pos g).trans (Eq.trans ?_ (dif_pos g).symm)
    blk_point []
  · refine (dif_neg g).trans (Eq.trans ?_ (dif_neg g).symm)
    blk_point []

/-- The reference's queries and keys. -/
theorem qk_at (c : Dev nD) (r : Fin 8192) (l : Fin 4096) :
    (Cert.RopeRefIdeal.Value.res_main_v91 m c : FVec Ideal S8192x4096 .bf16) (ValueIdx.ix2 r l)
      = Cert.Rotary.qkR (m ((c.tc : Thread nD τ).loc main_arg0)) (m ((c.tc : Thread nD τ).loc main_arg1)) r l := by
  have hb : r.val = r.val / 2048 * 2048 + r.val % 2048 := by omega
  rw [res91, qkT_at]
  unfold Cert.Rotary.qkR
  by_cases g : l.val < 2048
  · rw [dif_pos g, if_pos g]
    exact rot_cols _ _ 0 (by omega) (by omega) _ _ _ _ _ r l hb (by show l.val = 0 + (l.val / 256 * 256 + l.val % 256); omega)
  · rw [dif_neg g, if_neg g]
    exact congrArg (fun q : EReal => q * Ideal.ofBits .f32 1031798784#32)
      (rot_cols _ _ 2048 (by omega) (by omega) _ _ _ _ _ r l hb (by show l.val = 2048 + ((l.val - 2048) / 256 * 256 + (l.val - 2048) % 256); omega))

/-- The reference's decayed keys. -/
theorem kk_at (c : Dev nD) (r : Fin 8192) (l : Fin 2048) :
    (Cert.RopeRefIdeal.Value.res_main_v93 m c : FVec Ideal S8192x2048 .bf16) (ValueIdx.ix2 r l)
      = Cert.Rotary.kkR (m ((c.tc : Thread nD τ).loc main_arg0)) (m ((c.tc : Thread nD τ).loc main_arg1)) r l := by
  have hb : r.val = r.val / 2048 * 2048 + r.val % 2048 := by omega
  rw [res93, kkT_at]
  unfold Cert.Rotary.kkR
  exact congrArg (fun q : EReal => q * Ideal.ofBits .f32 1031798784#32 * Cert.Rotary.kdec (r.val % 256) (l.val / 256))
    (rot_cols _ _ 2048 (by omega) (by omega) _ _ _ _ _ r ⟨2048 + l.val, by omega⟩ hb (by show 2048 + l.val = 2048 + (l.val / 256 * 256 + l.val % 256); omega))

end Cert.RopeRefIdeal.At
-- ==== Proof.Finite.lean ====
module

public import proofs.«01_k».proof.Pre_finite
public import proofs.«01_k».proof.Proof.Decay
public import Idealize.ShloMosaic.Lib.ReduceAll
public import Idealize.ShloMosaic.Lib.Pipeline.ValueKit
public import Idealize.ShloMosaic.Lib.Pointwise

/-! The precondition read back: the queries, keys and values are real numbers. -/

@[expose] public section

set_option maxRecDepth 16384

noncomputable section

namespace Cert.Pre_finite

open Idealize.ShloMosaic Cert.Retention

/-- The shape facts the precondition's reductions take. -/
theorem facts : Facts where
  bcast_S_S4x2048x8x256 := by decide
  reducesTo_S4x2048x8x256_S_d0_1_2_3 := by decide
  h_S_ := by decide
  bcast_S_S4x2048x8x512 := by decide
  reducesTo_S4x2048x8x512_S_d0_1_2_3 := by decide

/-- A value whose magnitude is below infinity is a real number. -/
theorem real_of_lt (x : EReal) (h : Ideal.cmp .olt (max x (-x)) (Ideal.ofBits .f32 0x7F800000#32) = 1#1) : x = (x.toReal : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  refine (EReal.coe_toReal hlt.1.ne ?_).symm
  intro hb
  rw [hb] at hlt
  simp at hlt

instance : Subsingleton S_.Idx := ⟨fun a b => funext fun i => i.elim0⟩

/-- If the precondition is one, the queries, keys and values hold real numbers only. -/
theorem finite [Facts] (q k : FVec Ideal S4x2048x8x256 .f32) (v : FVec Ideal S4x2048x8x512 .f32) (g : FVec Ideal S4x2048x4096 .f32)
    (h : fn (F := Ideal) q k v g = fun _ => 1#1) :
    Fin4 (fun b n h d => q (ix4 b n h d)) ∧ Fin4 (fun b n h d => k (ix4 b n h d)) ∧ Fin4 (fun b n h d => v (ix4 b n h d)) := by
  have h0 := congrFun h (fun i => i.elim0)
  unfold fn at h0
  obtain ⟨h1, hv⟩ := IntOp.andi_eq_one.1 h0
  obtain ⟨hq, hk⟩ := IntOp.andi_eq_one.1 h1
  exact ⟨fun b n h d => real_of_lt _ (Host.reduce_andi_all _ _ _ _ _ hq (ix4 b n h d)),
    fun b n h d => real_of_lt _ (Host.reduce_andi_all _ _ _ _ _ hk (ix4 b n h d)),
    fun b n h d => real_of_lt _ (Host.reduce_andi_all _ _ _ _ _ hv (ix4 b n h d))⟩

end Cert.Pre_finite
-- ==== Proof.KEntry.lean ====
module

public import proofs.«01_k».proof.Proof.Gen.KernelIdeal.Value
public import proofs.«01_k».proof.Proof.Decay
public import Idealize.ShloMosaic.Lib.Pipeline.ValueKit
public import Idealize.ShloMosaic.Lib.Pointwise
public import Idealize.ShloMosaic.Lib.StableHlo.RunLoop
public import Idealize.ShloMosaic.Lib.StableHlo.RunRead

/-! What the kernel's launch finds in its operands, read at an index. -/

@[expose] public section

set_option maxRecDepth 16384

noncomputable section

namespace Cert.KernelIdeal.Entry

open Idealize.ShloMosaic Idealize.ShloMosaic.TcCoe Idealize.SL.Sem
open Cert.KernelIdeal Cert.KernelIdeal.Gen Cert.Retention

variable (m : (ℓ : Loc nD τ sig) → Buf (Elt Ideal) ℓ)

/-- The decay over one chunk. -/
theorem cdec_at (c : Dev nD) (h : Fin 8) :
    (V m c main_v104 : FVec Ideal S8 .f32) (ix1 h)
      = (Ideal.exp (Ideal.ofBits .f32 1132462080#32 * LG h) : EReal) := by
  unfold V; rw [← StableHlo.afterL_eq_after_flatten]
  simp only [StableHlo.afterL_cons, StableHlo.afterL_nil]
  after_reads_simp
  pointwise [LG]

/-- The weight of the carried state at row `i` of a chunk. -/
theorem qd_at (c : Dev nD) (h : Fin 8) (i : Fin 256) (j : Fin 128) :
    (V m c main_v107 : FVec Ideal S8x256x128 .f32) (ix3 h i j)
      = (Ideal.exp ((FloatOps.sitofp (F := Ideal) .f32 (BitVec.ofNat 32 i.val) + 1) * LG h) : EReal) := by
  unfold V; rw [← StableHlo.afterL_eq_after_flatten]
  simp only [StableHlo.afterL_cons, StableHlo.afterL_nil]
  after_reads_simp
  pointwise [LG]

/-- The keys, weighted by the decay from their place to the end of their chunk. -/
theorem kk_at (c : Dev nD) (r : Fin 8192) (l : Fin 2048) (b : Fin 4) (n : Fin 2048) (h : Fin 8) (d : Fin 256) (hr : r.val = b.val * 2048 + n.val) (hl : l.val = h.val * 256 + d.val)
    (X : FVec Ideal S4x2048x8x256 .f32) (hX : X = m (c, Proc.tc.devRef main_arg1)) :
    (V m c main_v55 : FVec Ideal S8192x2048 .bf16) (ix2 r l)
      = (X (ix4 b n h d) * Ideal.exp ((Ideal.ofBits .f32 1132462080#32 - 1 - FloatOps.sitofp (F := Ideal) .f32 (BitVec.ofNat 32 (n.val % 256))) * LG h) : EReal) := by
  unfold V; rw [← StableHlo.afterL_eq_after_flatten]
  simp only [StableHlo.afterL_cons, StableHlo.afterL_nil]
  after_reads_simp
  pointwise [LG]
  subst hX
  have e1 : r.val % 256 = n.val % 256 := by omega
  have e2 : l.val / 256 = h.val := by omega
  refine congrArg₂ (· * ·) ?_ ?_
  · blk_point []
  · rw [e1, e2]

/-- The values. -/
theorem v_at (c : Dev nD) (r : Fin 8192) (l : Fin 4096) (b : Fin 4) (n : Fin 2048) (h : Fin 8) (e : Fin 512) (hr : r.val = b.val * 2048 + n.val) (hl : l.val = h.val * 512 + e.val) :
    (V m c main_v57 : FVec Ideal S8192x4096 .bf16) (ix2 r l)
      = (m (c, Proc.tc.devRef main_arg2) (ix4 b n h e) : EReal) := by
  unfold V; rw [← StableHlo.afterL_eq_after_flatten]
  simp only [StableHlo.afterL_cons, StableHlo.afterL_nil]
  after_reads_simp
  pointwise
  blk_point []

/-- The gate. -/
theorem g_at (c : Dev nD) (r : Fin 8192) (l : Fin 4096) (b : Fin 4) (n : Fin 2048) (hr : r.val = b.val * 2048 + n.val) :
    (V m c main_v58 : FVec Ideal S8192x4096 .f32) (ix2 r l)
      = (m (c, Proc.tc.devRef main_arg3) (ix3 b n l) : EReal) := by
  unfold V; rw [← StableHlo.afterL_eq_after_flatten]
  simp only [StableHlo.afterL_cons, StableHlo.afterL_nil]
  after_reads_simp
  pointwise
  blk_point []

/-- The queries: the left half of the joined array. -/
theorem q_at (c : Dev nD) (r : Fin 8192) (l : Fin 4096) (b : Fin 4) (n : Fin 2048) (h : Fin 8) (d : Fin 256) (hr : r.val = b.val * 2048 + n.val) (hl : l.val = h.val * 256 + d.val) :
    (V m c main_v3 : FVec Ideal S8192x4096 .bf16) (ix2 r l)
      = (m (c, Proc.tc.devRef main_arg0) (ix4 b n h d) : EReal) := by
  unfold V; rw [← StableHlo.afterL_eq_after_flatten]
  simp only [StableHlo.afterL_cons, StableHlo.afterL_nil]
  after_reads_simp
  pointwise
  refine (dif_pos (show l.val < 2048 by omega)).trans ?_
  after_reads_simp
  pointwise
  blk_point []

/-- The keys: the right half of the joined array. -/
theorem k_at (c : Dev nD) (r : Fin 8192) (l : Fin 4096) (b : Fin 4) (n : Fin 2048) (h : Fin 8) (d : Fin 256) (hr : r.val = b.val * 2048 + n.val) (hl : l.val = 2048 + (h.val * 256 + d.val)) :
    (V m c main_v3 : FVec Ideal S8192x4096 .bf16) (ix2 r l)
      = (m (c, Proc.tc.devRef main_arg1) (ix4 b n h d) : EReal) := by
  unfold V; rw [← StableHlo.afterL_eq_after_flatten]
  simp only [StableHlo.afterL_cons, StableHlo.afterL_nil]
  after_reads_simp
  pointwise
  refine (dif_neg (show ¬ l.val < 2048 by omega)).trans ?_
  after_reads_simp
  pointwise
  blk_point []

/-- The decay between two rows of a chunk. -/
theorem decay_at (c : Dev nD) (h : Fin 8) (i j : Fin 256) :
    (V m c main_v84 : FVec Ideal S8x256x256 .f32) (ix3 h i j)
      = ((if 0 ≤ FloatOps.sitofp (F := Ideal) .f32 (BitVec.ofNat 32 i.val) - FloatOps.sitofp (F := Ideal) .f32 (BitVec.ofNat 32 j.val) then
          Ideal.exp (max (FloatOps.sitofp (F := Ideal) .f32 (BitVec.ofNat 32 i.val) - FloatOps.sitofp (F := Ideal) .f32 (BitVec.ofNat 32 j.val)) 0 * LG h)
        else 0 : EReal) : EReal) := by
  unfold V; rw [← StableHlo.afterL_eq_after_flatten]
  simp only [StableHlo.afterL_cons, StableHlo.afterL_nil]
  after_reads_simp
  simp only [StableHlo.TRef.toBuf, StableHlo.TRef.ofBuf, cast_eq]
  pointwise [LG]

end Cert.KernelIdeal.Entry
-- ==== Proof.KStep.lean ====
module

public import proofs.«01_k».proof.Proof.Gen.KernelIdeal.Value
public import Idealize.ShloMosaic.Lib.Pipeline.ValueKit
public import Idealize.ShloMosaic.Lib.Pointwise
public import Idealize.ShloMosaic.Lib.Pipeline.ReadBack

/-! What one grid point of the retention kernel leaves in its two output blocks, read at an index. -/

set_option maxRecDepth 16384

@[expose] public section

noncomputable section

namespace Cert.KernelIdeal.Step

open Idealize.ShloMosaic Idealize.ShloMosaic.TcCoe Idealize.SL.Sem
open Cert.KernelIdeal Cert.KernelIdeal.Gen

variable (m : (ℓ : Loc nD τ sig) → Buf (Elt Ideal) ℓ)

/-- The state after one chunk, from the state before it, the chunk's decay, weighted keys and values. -/
def stepS (s : FVec Ideal S1x8x256x512 .f32) (x0 : FVec Ideal S8 .f32) (x3 : FVec Ideal S256x2048 .bf16)
    (x4 : FVec Ideal S256x4096 .bf16) (h : Fin 8) (d : Fin 256) (e : Fin 512) : EReal :=
  s (ix4 0 h d e) * x0 (ix1 h)
    + ∑ j : Fin 256, x3 (ix2 j ⟨h.val * 256 + d.val, by omega⟩) * x4 (ix2 j ⟨h.val * 512 + e.val, by omega⟩)

/-- The state block after a point that continues a sequence: one step from what the point before left. -/
theorem state_B (c : Dev nD) (t : Fin cfg0.N) (h0 : ¬ t.val % 8 = 0) (y : S1x8x256x512.Idx)
    (a : Fin 8) (b : Fin 256) (e : Fin 512) (ha : (y 1 : ℕ) = a) (hb : (y 2 : ℕ) = b) (he : (y 3 : ℕ) = e) :
    (outsAt0 m c t.val t.isLt).2 y
      = stepS (outsAt0 m c (t.val - 1) (Nat.lt_of_le_of_lt (Nat.sub_le _ _) t.isLt)).2 (iblk m c 0 t) (iblk m c 3 t) (iblk m c 4 t) a b e := by
  rw [outsAt0_B m c t h0]
  frame_out
  canon_tiles x h
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, stepS]
    blk_point []

/-- Stores that already cover an index decide what is read there, whatever was stored before them. -/
theorem canon_append_of_cover {S : Shape} {e : EltTy} (L' : List (View.Piece (Elt Ideal) S e)) :
    ∀ (L : List (View.Piece (Elt Ideal) S e)) (y : S.Idx) (_ : ∃ p ∈ L, y ∈ p.1.set), View.canon (L ++ L') y = View.canon L y
  | [], y, hy => by obtain ⟨p, hp, _⟩ := hy; simp at hp
  | p :: L, y, hy => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_append_of_cover L' L y ?_
      obtain ⟨q, hq, hyq⟩ := hy
      rcases List.mem_cons.mp hq with rfl | hq'
      · exact absurd hyq hm
      · exact ⟨q, hq', hyq⟩

/-- The state block after a point that opens a sequence: one step from the zero state. -/
theorem state_A (c : Dev nD) (t : Fin cfg0.N) (h0 : t.val % 8 = 0) (y : S1x8x256x512.Idx)
    (a : Fin 8) (b : Fin 256) (e : Fin 512) (ha : (y 1 : ℕ) = a) (hb : (y 2 : ℕ) = b) (he : (y 3 : ℕ) = e) :
    (outsAt0 m c t.val t.isLt).2 y
      = stepS (fun _ => 0) (iblk m c 0 t) (iblk m c 3 t) (iblk m c 4 t) a b e := by
  rw [outsAt0_A m c t h0]
  frame_open
  simp (disch := decide) only [↓ View.readCov_skip, ↓ View.readCov_cons_toLoadRect, ↓ View.readCov_fill]
  frame_out
  refine (canon_append_of_cover [_] [_, _, _, _, _, _, _, _] y (View.cover_of_tiledL (s := S1x8x256x512) _ ![1, 1, 256, 512] (by sl_kernel_rfl) y)).trans ?_
  canon_tiles x h
  all_goals
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, stepS]
    blk_point []

end Cert.KernelIdeal.Step
-- ==== Proof.KOut.lean ====
module

public import proofs.«01_k».proof.Proof.Gen.KernelIdeal.Value
public import proofs.«01_k».proof.Proof.Decay
public import Idealize.ShloMosaic.Lib.Pipeline.ValueKit
public import Idealize.ShloMosaic.Lib.Pointwise
public import Idealize.ShloMosaic.Lib.Pipeline.ReadBack

/-! The attended values that one grid point of the retention kernel leaves in its output block, read at an index. -/

set_option maxRecDepth 16384

@[expose] public section

noncomputable section

namespace Cert.KernelIdeal.Step

open Idealize.ShloMosaic Idealize.ShloMosaic.TcCoe Idealize.SL.Sem
open Cert.KernelIdeal Cert.KernelIdeal.Gen Cert.Retention

variable (m : (ℓ : Loc nD τ sig) → Buf (Elt Ideal) ℓ)

/-- The attended values of row `i`, before the group norm. -/
def stepO (s : FVec Ideal S1x8x256x512 .f32) (x1 x2 : FVec Ideal S256x2048 .bf16) (x4 : FVec Ideal S256x4096 .bf16)
    (x6 : FVec Ideal S8x256x256 .f32) (x7 : FVec Ideal S8x256x128 .f32) (h : Fin 8) (i : Fin 256) (e : Fin 512) : EReal :=
  (∑ j : Fin 256, ((∑ d : Fin 256, x1 (ix2 i ⟨h.val * 256 + d.val, by omega⟩) * x2 (ix2 j ⟨h.val * 256 + d.val, by omega⟩))
      * x6 (ix3 h i j)) * x4 (ix2 j ⟨h.val * 512 + e.val, by omega⟩))
    + x7 (ix3 h i 0) * ∑ d : Fin 256, x1 (ix2 i ⟨h.val * 256 + d.val, by omega⟩) * s (ix4 0 h d e)

/-- The output block after a point that continues a sequence: the attended values over the state before it, normed and gated. -/
theorem out_B (c : Dev nD) (t : Fin cfg0.N) (h0 : ¬ t.val % 8 = 0) (y : S256x4096.Idx) :
    (outsAt0 m c t.val t.isLt).1 y
      = gated (fun e => stepO (outsAt0 m c (t.val - 1) (Nat.lt_of_le_of_lt (Nat.sub_le _ _) t.isLt)).2 (iblk m c 1 t) (iblk m c 2 t)
          (iblk m c 4 t) (iblk m c 6 t) (iblk m c 7 t) ⟨(y 1).val / 512, by have : (y 1).val < 4096 := (y 1).isLt; omega⟩ (y 0) e)
          ((iblk m c 5 t : FVec Ideal S256x4096 .f32) y) ⟨(y 1).val % 512, Nat.mod_lt _ (by omega)⟩ := by
  rw [outsAt0_B m c t h0]
  frame_out
  canon_tiles x h
  all_goals
    pointwise [Cert.Retention.gated, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, stepO]
    blk_point []

/-- The output block after a point that opens a sequence: the attended values over the state before it, normed and gated. -/
theorem out_A (c : Dev nD) (t : Fin cfg0.N) (h0 : t.val % 8 = 0) (y : S256x4096.Idx) :
    (outsAt0 m c t.val t.isLt).1 y
      = gated (fun e => stepO (fun _ => 0) (iblk m c 1 t) (iblk m c 2 t)
          (iblk m c 4 t) (iblk m c 6 t) (iblk m c 7 t) ⟨(y 1).val / 512, by have : (y 1).val < 4096 := (y 1).isLt; omega⟩ (y 0) e)
          ((iblk m c 5 t : FVec Ideal S256x4096 .f32) y) ⟨(y 1).val % 512, Nat.mod_lt _ (by omega)⟩ := by
  rw [outsAt0_A m c t h0]
  frame_open
  simp (disch := decide) only [↓ View.readCov_skip, ↓ View.readCov_cons_toLoadRect, ↓ View.readCov_fill]
  frame_out
  canon_tiles x h
  all_goals
    pointwise [Cert.Retention.gated, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, stepO]
    blk_point []

end Cert.KernelIdeal.Step
-- ==== Proof.KLoop.lean ====
module

public import proofs.«01_k».proof.Proof.Gen.KernelIdeal.Value
public import proofs.«01_k».proof.Proof.KEntry
public import proofs.«01_k».proof.Proof.KStep
public import proofs.«01_k».proof.Proof.KOut
public import Idealize.ShloMosaic.Lib.Pipeline.ValueKit
public import Idealize.ShloMosaic.Lib.Pointwise
public import Idealize.ShloMosaic.Lib.StableHlo.RunLoop
public import Idealize.ShloMosaic.Lib.StableHlo.RunRead

/-! The kernel's grid: along each batch's points the state and the outputs are the recurrence's. -/

@[expose] public section

set_option maxRecDepth 16384

noncomputable section

namespace Cert.KernelIdeal.Loop

open Idealize.ShloMosaic Idealize.ShloMosaic.TcCoe Idealize.SL.Sem
open Cert.KernelIdeal Cert.KernelIdeal.Entry Cert.KernelIdeal.Step Cert.KernelIdeal.Gen Cert.Retention

variable (m : (ℓ : Loc nD τ sig) → Buf (Elt Ideal) ℓ)

/-- Which block each window shows at a point. -/
theorem idx : ∀ t : Fin cfg0.N,
    win0_0.index t = ![0] ∧ win0_1.index t = ![t.val, 0] ∧ win0_2.index t = ![t.val, 1] ∧ win0_3.index t = ![t.val, 0]
      ∧ win0_4.index t = ![t.val, 0] ∧ win0_5.index t = ![t.val, 0] ∧ win0_6.index t = ![0, 0, 0] ∧ win0_7.index t = ![0, 0, 0]
      ∧ win0_8.index t = ![t.val, 0] ∧ win0_9.index t = ![t.val / 8, 0, 0, 0] :=
  (by decide +kernel : ∀ t : Fin grid0.N, _)

/-- The number of points. -/
theorem N_lt (t : Fin cfg0.N) : t.val < 32 := lt_of_lt_of_eq t.isLt (show cfg0.N = 32 from N_0)

variable (q k : Fin 4 → Fin 2048 → Fin 8 → Fin 256 → EReal) (v : Fin 4 → Fin 2048 → Fin 8 → Fin 512 → EReal)

/-- The chunk decay at a point. -/
theorem blk0 (c : Dev nD) (t : Fin cfg0.N) (h : Fin 8) :
    (iblk m c 0 t : FVec Ideal S8 .f32) (ix1 h) = ((Real.exp (((256 : ℕ) : ℝ) * Lr h) : ℝ) : EReal) := by
  have e : (iblk m c 0 t : FVec Ideal S8 .f32) (ix1 h) = (V m c main_v104 : FVec Ideal S8 .f32) (ix1 h) := by blk_ext [iblk, idx t]
  rw [e, cdec_at, bits_256, LG_eq, ← EReal.coe_mul, Ideal.exp_coe]; norm_num

/-- The queries at a point. -/
theorem blk1 (c : Dev nD) (hq : ∀ b n h d, (m (c, Proc.devRef .tc main_arg0) : FVec Ideal S4x2048x8x256 .f32) (ix4 b n h d) = q b n h d) (fq : Fin4 q)
    (t : Fin cfg0.N) (b : Fin 4) (s : ℕ) (ht : t.val = b.val * 8 + s) (hs : s < 8) (i : Fin 256) (h : Fin 8) (d : Fin 256) (l : Fin 2048) (hl : l.val = h.val * 256 + d.val) :
    (iblk m c 1 t : FVec Ideal S256x2048 .bf16) (ix2 i l) = ((seq q b h (s * 256 + i.val) d : ℝ) : EReal) := by
  have e : (iblk m c 1 t : FVec Ideal S256x2048 .bf16) (ix2 i l)
      = (V m c main_v3 : FVec Ideal S8192x4096 .bf16) (ix2 ⟨t.val * 256 + i.val, by have := N_lt t; omega⟩ ⟨l.val, by omega⟩) := by blk_ext [iblk, idx t]
  rw [e]
  exact ((q_at m c _ _ b ⟨s * 256 + i.val, by omega⟩ h d (by show t.val * 256 + i.val = b.val * 2048 + (s * 256 + i.val); omega) (by exact hl)).trans (hq _ _ _ _)).trans
    (fq.at _ _ _ _ _ rfl)

/-- The keys at a point. -/
theorem blk2 (c : Dev nD) (hk : ∀ b n h d, (m (c, Proc.devRef .tc main_arg1) : FVec Ideal S4x2048x8x256 .f32) (ix4 b n h d) = k b n h d) (fk : Fin4 k)
    (t : Fin cfg0.N) (b : Fin 4) (s : ℕ) (ht : t.val = b.val * 8 + s) (hs : s < 8) (i : Fin 256) (h : Fin 8) (d : Fin 256) (l : Fin 2048) (hl : l.val = h.val * 256 + d.val) :
    (iblk m c 2 t : FVec Ideal S256x2048 .bf16) (ix2 i l) = ((seq k b h (s * 256 + i.val) d : ℝ) : EReal) := by
  have e : (iblk m c 2 t : FVec Ideal S256x2048 .bf16) (ix2 i l)
      = (V m c main_v3 : FVec Ideal S8192x4096 .bf16) (ix2 ⟨t.val * 256 + i.val, by have := N_lt t; omega⟩ ⟨2048 + l.val, by omega⟩) := by blk_ext [iblk, idx t]
  rw [e]
  exact ((k_at m c _ _ b ⟨s * 256 + i.val, by omega⟩ h d (by show t.val * 256 + i.val = b.val * 2048 + (s * 256 + i.val); omega) (by show 2048 + l.val = _; omega)).trans (hk _ _ _ _)).trans
    (fk.at _ _ _ _ _ rfl)

/-- The weighted keys at a point. -/
theorem blk3 (c : Dev nD) (hk : ∀ b n h d, (m (c, Proc.devRef .tc main_arg1) : FVec Ideal S4x2048x8x256 .f32) (ix4 b n h d) = k b n h d) (fk : Fin4 k)
    (t : Fin cfg0.N) (b : Fin 4) (s : ℕ) (ht : t.val = b.val * 8 + s) (hs : s < 8) (i : Fin 256) (h : Fin 8) (d : Fin 256) (l : Fin 2048) (hl : l.val = h.val * 256 + d.val) :
    (iblk m c 3 t : FVec Ideal S256x2048 .bf16) (ix2 i l)
      = ((seq k b h (s * 256 + i.val) d * Real.exp ((((256 : ℕ) : ℝ) - 1 - i.val) * Lr h) : ℝ) : EReal) := by
  have e : (iblk m c 3 t : FVec Ideal S256x2048 .bf16) (ix2 i l)
      = (V m c main_v55 : FVec Ideal S8192x2048 .bf16) (ix2 ⟨t.val * 256 + i.val, by have := N_lt t; omega⟩ l) := by blk_ext [iblk, idx t]
  rw [e, kk_at m c _ _ b ⟨s * 256 + i.val, by omega⟩ h d (by show t.val * 256 + i.val = b.val * 2048 + (s * 256 + i.val); omega) hl _ rfl, hk, fk.at _ _ _ _ _ rfl]
  have e2 : (s * 256 + i.val) % 256 = i.val := by omega
  simp only [e2]
  rw [bits_256, LG_eq, nat_cast _ (by omega), ← EReal.coe_one, ← EReal.coe_sub, ← EReal.coe_sub, ← EReal.coe_mul, Ideal.exp_coe, ← EReal.coe_mul]
  norm_num

/-- The values at a point. -/
theorem blk4 (c : Dev nD) (hv : ∀ b n h d, (m (c, Proc.devRef .tc main_arg2) : FVec Ideal S4x2048x8x512 .f32) (ix4 b n h d) = v b n h d) (fv : Fin4 v)
    (t : Fin cfg0.N) (b : Fin 4) (s : ℕ) (ht : t.val = b.val * 8 + s) (hs : s < 8) (i : Fin 256) (h : Fin 8) (e : Fin 512) (l : Fin 4096) (hl : l.val = h.val * 512 + e.val) :
    (iblk m c 4 t : FVec Ideal S256x4096 .bf16) (ix2 i l) = ((seq v b h (s * 256 + i.val) e : ℝ) : EReal) := by
  have e1 : (iblk m c 4 t : FVec Ideal S256x4096 .bf16) (ix2 i l)
      = (V m c main_v57 : FVec Ideal S8192x4096 .bf16) (ix2 ⟨t.val * 256 + i.val, by have := N_lt t; omega⟩ l) := by blk_ext [iblk, idx t]
  rw [e1]
  exact ((v_at m c _ _ b ⟨s * 256 + i.val, by omega⟩ h e (by show t.val * 256 + i.val = b.val * 2048 + (s * 256 + i.val); omega) hl).trans (hv _ _ _ _)).trans
    (fv.at _ _ _ _ _ rfl)

/-- The gate at a point. -/
theorem blk5 (c : Dev nD) (t : Fin cfg0.N) (b : Fin 4) (n : Fin 2048) (i : Fin 256) (hn : t.val * 256 + i.val = b.val * 2048 + n.val) (l : Fin 4096) :
    (iblk m c 5 t : FVec Ideal S256x4096 .f32) (ix2 i l) = (m (c, Proc.devRef .tc main_arg3) : FVec Ideal S4x2048x4096 .f32) (ix3 b n l) := by
  have e1 : (iblk m c 5 t : FVec Ideal S256x4096 .f32) (ix2 i l)
      = (V m c main_v58 : FVec Ideal S8192x4096 .f32) (ix2 ⟨t.val * 256 + i.val, by have := N_lt t; omega⟩ l) := by blk_ext [iblk, idx t]
  rw [e1]
  exact g_at m c _ _ b n hn

/-- The decay inside a chunk, at a point. -/
theorem blk6 (c : Dev nD) (t : Fin cfg0.N) (h : Fin 8) (i j : Fin 256) :
    (iblk m c 6 t : FVec Ideal S8x256x256 .f32) (ix3 h i j) = ((if j.val ≤ i.val then Real.exp (((i.val : ℝ) - j.val) * Lr h) else 0 : ℝ) : EReal) := by
  have e : (iblk m c 6 t : FVec Ideal S8x256x256 .f32) (ix3 h i j) = (V m c main_v84 : FVec Ideal S8x256x256 .f32) (ix3 h i j) := by blk_ext [iblk, idx t]
  rw [e]
  exact (decay_at m c h i j).trans (decay_real h i.val j.val (by omega) (by omega))

/-- The weight of the carried state, at a point. -/
theorem blk7 (c : Dev nD) (t : Fin cfg0.N) (h : Fin 8) (i : Fin 256) :
    (iblk m c 7 t : FVec Ideal S8x256x128 .f32) (ix3 h i 0) = ((Real.exp (((i.val : ℝ) + 1) * Lr h) : ℝ) : EReal) := by
  have e : (iblk m c 7 t : FVec Ideal S8x256x128 .f32) (ix3 h i 0) = (V m c main_v107 : FVec Ideal S8x256x128 .f32) (ix3 h i 0) := by blk_ext [iblk, idx t]
  rw [e]
  exact (qd_at m c h i 0).trans (qdec_real h i.val (by omega))

/-- One step from the recurrence's state is the recurrence's state a chunk later. -/
theorem stepS_real (c : Dev nD) (hk : ∀ b n h d, (m (c, Proc.devRef .tc main_arg1) : FVec Ideal S4x2048x8x256 .f32) (ix4 b n h d) = k b n h d)
    (hv : ∀ b n h d, (m (c, Proc.devRef .tc main_arg2) : FVec Ideal S4x2048x8x512 .f32) (ix4 b n h d) = v b n h d)
    (fk : Fin4 k) (fv : Fin4 v) (t : Fin cfg0.N) (b : Fin 4) (s : ℕ) (ht : t.val = b.val * 8 + s) (hs : s < 8)
    (X : FVec Ideal S1x8x256x512 .f32) (hX : ∀ h d e, X (ix4 0 h d e) = ((St (Lr h) (seq k b h) (seq v b h) (s * 256) d e : ℝ) : EReal))
    (h : Fin 8) (d : Fin 256) (e : Fin 512) :
    stepS X (iblk m c 0 t) (iblk m c 3 t) (iblk m c 4 t) h d e = ((St (Lr h) (seq k b h) (seq v b h) ((s + 1) * 256) d e : ℝ) : EReal) := by
  unfold stepS
  rw [hX, blk0]
  simp only [fun j : Fin 256 => blk3 m k c hk fk t b s ht hs j h d ⟨h.val * 256 + d.val, by omega⟩ rfl,
    fun j : Fin 256 => blk4 m v c hv fv t b s ht hs j h e ⟨h.val * 512 + e.val, by omega⟩ rfl, ← EReal.coe_mul, coe_sum, ← EReal.coe_add]
  rw [Nat.add_mul, Nat.one_mul, St_add]

/-- The attended values over the recurrence's state are the recurrence's output. -/
theorem stepO_real (c : Dev nD) (hq : ∀ b n h d, (m (c, Proc.devRef .tc main_arg0) : FVec Ideal S4x2048x8x256 .f32) (ix4 b n h d) = q b n h d)
    (hk : ∀ b n h d, (m (c, Proc.devRef .tc main_arg1) : FVec Ideal S4x2048x8x256 .f32) (ix4 b n h d) = k b n h d)
    (hv : ∀ b n h d, (m (c, Proc.devRef .tc main_arg2) : FVec Ideal S4x2048x8x512 .f32) (ix4 b n h d) = v b n h d)
    (fq : Fin4 q) (fk : Fin4 k) (fv : Fin4 v) (t : Fin cfg0.N) (b : Fin 4) (s : ℕ) (ht : t.val = b.val * 8 + s) (hs : s < 8)
    (X : FVec Ideal S1x8x256x512 .f32) (hX : ∀ h d e, X (ix4 0 h d e) = ((St (Lr h) (seq k b h) (seq v b h) (s * 256) d e : ℝ) : EReal))
    (h : Fin 8) (i : Fin 256) (e : Fin 512) :
    stepO X (iblk m c 1 t) (iblk m c 2 t) (iblk m c 4 t) (iblk m c 6 t) (iblk m c 7 t) h i e
      = ((Ot (Lr h) (seq q b h) (seq k b h) (seq v b h) (s * 256 + i.val) e : ℝ) : EReal) := by
  unfold stepO
  simp only [hX, blk6, blk7, fun (j : Fin 256) (d : Fin 256) => blk1 m q c hq fq t b s ht hs j h d ⟨h.val * 256 + d.val, by omega⟩ rfl,
    fun (j : Fin 256) (d : Fin 256) => blk2 m k c hk fk t b s ht hs j h d ⟨h.val * 256 + d.val, by omega⟩ rfl,
    fun j : Fin 256 => blk4 m v c hv fv t b s ht hs j h e ⟨h.val * 512 + e.val, by omega⟩ rfl, ← EReal.coe_mul, coe_sum, ← EReal.coe_add]
  rw [Ot_add]

/-- The state block after every point is the recurrence's state after the tokens passed so far. -/
theorem state_real (c : Dev nD) (hk : ∀ b n h d, (m (c, Proc.devRef .tc main_arg1) : FVec Ideal S4x2048x8x256 .f32) (ix4 b n h d) = k b n h d)
    (hv : ∀ b n h d, (m (c, Proc.devRef .tc main_arg2) : FVec Ideal S4x2048x8x512 .f32) (ix4 b n h d) = v b n h d)
    (fk : Fin4 k) (fv : Fin4 v) : ∀ (n : ℕ) (hn : n < cfg0.N) (b : Fin 4) (s : ℕ) (_ : n = b.val * 8 + s) (_ : s < 8) (h : Fin 8) (d : Fin 256) (e : Fin 512),
      (outsAt0 m c n hn).2 (ix4 0 h d e) = ((St (Lr h) (seq k b h) (seq v b h) ((s + 1) * 256) d e : ℝ) : EReal) := by
  intro n
  induction n with
  | zero =>
    intro hn b s ht hs h d e
    rw [state_A m c ⟨0, hn⟩ rfl _ h d e rfl rfl rfl]
    exact stepS_real m k v c hk hv fk fv ⟨0, hn⟩ b s ht hs _ (fun h d e => by
      rw [show s * 256 = 0 by omega, St_zero]; exact EReal.coe_zero.symm) h d e
  | succ n ih =>
    intro hn b s ht hs h d e
    by_cases h0 : (n + 1) % 8 = 0
    · rw [state_A m c ⟨n + 1, hn⟩ h0 _ h d e rfl rfl rfl]
      exact stepS_real m k v c hk hv fk fv ⟨n + 1, hn⟩ b s ht hs _ (fun h d e => by
        rw [show s * 256 = 0 by omega, St_zero]; exact EReal.coe_zero.symm) h d e
    · rw [state_B m c ⟨n + 1, hn⟩ h0 _ h d e rfl rfl rfl]
      refine stepS_real m k v c hk hv fk fv ⟨n + 1, hn⟩ b s ht hs _ (fun h d e => ?_) h d e
      rw [show s * 256 = (s - 1 + 1) * 256 by omega]
      exact ih (by omega) b (s - 1) (by omega) (by omega) h d e

/-- The output block after every point: the recurrence's outputs, normed and gated. -/
theorem out_real (c : Dev nD) (hq : ∀ b n h d, (m (c, Proc.devRef .tc main_arg0) : FVec Ideal S4x2048x8x256 .f32) (ix4 b n h d) = q b n h d)
    (hk : ∀ b n h d, (m (c, Proc.devRef .tc main_arg1) : FVec Ideal S4x2048x8x256 .f32) (ix4 b n h d) = k b n h d)
    (hv : ∀ b n h d, (m (c, Proc.devRef .tc main_arg2) : FVec Ideal S4x2048x8x512 .f32) (ix4 b n h d) = v b n h d)
    (fq : Fin4 q) (fk : Fin4 k) (fv : Fin4 v) (t : Fin cfg0.N) (b : Fin 4) (s : ℕ) (ht : t.val = b.val * 8 + s) (hs : s < 8)
    (i : Fin 256) (l : Fin 4096) :
    (outsAt0 m c t.val t.isLt).1 (ix2 i l)
      = gated (fun e => ((Ot (Lr ⟨l.val / 512, by omega⟩) (seq q b ⟨l.val / 512, by omega⟩) (seq k b ⟨l.val / 512, by omega⟩) (seq v b ⟨l.val / 512, by omega⟩) (s * 256 + i.val) e : ℝ) : EReal))
          ((m (c, Proc.devRef .tc main_arg3) : FVec Ideal S4x2048x4096 .f32) (ix3 b ⟨s * 256 + i.val, by omega⟩ l)) ⟨l.val % 512, Nat.mod_lt _ (by omega)⟩ := by
  have e5 := blk5 m c t b ⟨s * 256 + i.val, by omega⟩ i (by show t.val * 256 + i.val = b.val * 2048 + (s * 256 + i.val); omega) l
  by_cases h0 : t.val % 8 = 0
  · refine (out_A m c t h0 (ix2 i l)).trans ?_
    rw [e5]
    congr 1
    funext e
    exact stepO_real m q k v c hq hk hv fq fk fv t b s ht hs _ (fun h d e => by
      rw [show s * 256 = 0 by omega, St_zero]; exact EReal.coe_zero.symm) _ i e
  · refine (out_B m c t h0 (ix2 i l)).trans ?_
    rw [e5]
    congr 1
    funext e
    exact stepO_real m q k v c hq hk hv fq fk fv t b s ht hs _ (fun h d e => by
      rw [show s * 256 = (s - 1 + 1) * 256 by omega]
      exact state_real m k v c hk hv fk fv (t.val - 1) _ b (s - 1) (by omega) (by omega) h d e) _ i e

end Cert.KernelIdeal.Loop
-- ==== Proof.Result.lean ====
module

public import proofs.«01_k».proof.Proof.Decay

/-! The two results as functions of the queries, keys, values and gate. -/

@[expose] public section

noncomputable section

namespace Cert.Retention

open Idealize.ShloMosaic

variable (q k : Fin 4 → Fin 2048 → Fin 8 → Fin 256 → EReal) (v : Fin 4 → Fin 2048 → Fin 8 → Fin 512 → EReal)

/-- The first result at a row and a column: the retained values of the column's head, normed and gated. -/
def resO (g : Fin 4 → Fin 2048 → Fin 4096 → EReal) (r : Fin 8192) (l : Fin 4096) : EReal :=
  gated (fun e => ((Ot (Lr ⟨l.val / 512, by omega⟩) (seq q ⟨r.val / 2048, by omega⟩ ⟨l.val / 512, by omega⟩)
      (seq k ⟨r.val / 2048, by omega⟩ ⟨l.val / 512, by omega⟩) (seq v ⟨r.val / 2048, by omega⟩ ⟨l.val / 512, by omega⟩) (r.val % 2048) e : ℝ) : EReal))
    (g ⟨r.val / 2048, by omega⟩ ⟨r.val % 2048, by omega⟩ l) ⟨l.val % 512, by omega⟩

/-- The first result at a row written as a batch and a token of it. -/
theorem resO_of (g : Fin 4 → Fin 2048 → Fin 4096 → EReal) (b : Fin 4) (n : ℕ) (l : Fin 4096) (x : Fin 8192) (y : Fin 4096) (k' : ℕ)
    (hx : x.val = b.val * 2048 + n) (hn : n < 2048) (hk : k' = n) (hy : y = l) :
    gated (fun e => ((Ot (Lr ⟨l.val / 512, by omega⟩) (seq q b ⟨l.val / 512, by omega⟩) (seq k b ⟨l.val / 512, by omega⟩)
        (seq v b ⟨l.val / 512, by omega⟩) k' e : ℝ) : EReal)) (g b ⟨n, hn⟩ l) ⟨l.val % 512, by omega⟩ = resO q k v g x y := by
  subst hy hk
  unfold resO
  have h1 : (⟨x.val / 2048, by omega⟩ : Fin 4) = b := Fin.ext (by show x.val / 2048 = b.val; omega)
  have h2 : x.val % 2048 = k' := by omega
  simp only [h1, h2]

/-- The second result: every head's state after all of a batch's tokens. -/
def resS (b : Fin 4) (h : Fin 8) (d : Fin 256) (e : Fin 512) : EReal :=
  ((St (Lr h) (seq k b h) (seq v b h) 2048 d e : ℝ) : EReal)

end Cert.Retention
-- ==== Proof.KFinal.lean ====
module

public import proofs.«01_k».proof.Proof.Gen.KernelIdeal.Value
public import proofs.«01_k».proof.Proof.KLoop
public import proofs.«01_k».proof.Proof.Result
public import Idealize.ShloMosaic.Lib.Pipeline.ValueKit
public import Idealize.ShloMosaic.Lib.Pointwise

/-! The kernel's two result arrays after its grid. -/

@[expose] public section

set_option maxRecDepth 16384

noncomputable section

namespace Cert.KernelIdeal.Final

open Idealize.ShloMosaic Idealize.ShloMosaic.TcCoe Idealize.SL.Sem
open Cert.KernelIdeal Cert.KernelIdeal.Loop Cert.KernelIdeal.Gen Cert.Retention

variable (m : (ℓ : Loc nD τ sig) → Buf (Elt Ideal) ℓ)

/-- The queries of the arguments. -/
def argQ (c : Dev nD) : Fin 4 → Fin 2048 → Fin 8 → Fin 256 → EReal :=
  fun b n h d => (m (c, Proc.devRef .tc main_arg0) : FVec Ideal S4x2048x8x256 .f32) (ix4 b n h d)

/-- The keys of the arguments. -/
def argK (c : Dev nD) : Fin 4 → Fin 2048 → Fin 8 → Fin 256 → EReal :=
  fun b n h d => (m (c, Proc.devRef .tc main_arg1) : FVec Ideal S4x2048x8x256 .f32) (ix4 b n h d)

/-- The values of the arguments. -/
def argV (c : Dev nD) : Fin 4 → Fin 2048 → Fin 8 → Fin 512 → EReal :=
  fun b n h d => (m (c, Proc.devRef .tc main_arg2) : FVec Ideal S4x2048x8x512 .f32) (ix4 b n h d)

/-- The gate of the arguments. -/
def argG (c : Dev nD) : Fin 4 → Fin 2048 → Fin 4096 → EReal :=
  fun b n l => (m (c, Proc.devRef .tc main_arg3) : FVec Ideal S4x2048x4096 .f32) (ix3 b n l)

/-- The first result array. -/
theorem arr8 (c : Dev nD) (fq : Fin4 (argQ m c)) (fk : Fin4 (argK m c)) (fv : Fin4 (argV m c)) :
    (dats m 0 c).arrAt 8 cfg0.N
      = (fun y => resO (argQ m c) (argK m c) (argV m c) (argG m c) (y 0) (y 1) : FVec Ideal S8192x4096 .bf16) := by
  refine (dats m 0 c).arrAt_eq_of_covers 8 _ (by decide +kernel) fun t hf y => ?_
  blk_simp
  rw [after0_8]
  have ht := N_lt t
  have e := out_real m (argQ m c) (argK m c) (argV m c) c (fun _ _ _ _ => rfl) (fun _ _ _ _ => rfl) (fun _ _ _ _ => rfl) fq fk fv t
    ⟨t.val / 8, by omega⟩ (t.val % 8) (by show t.val = t.val / 8 * 8 + t.val % 8; omega) (by omega)
  have hy0 : (y 0).val < 256 := (y 0).isLt
  have hy1 : (y 1).val < 4096 := (y 1).isLt
  have e0 : ((win0_8.blk t).view.emb y 0).val = t.val * 256 + (y 0).val := by blk_simp [idx t]
  have e1 : ((win0_8.blk t).view.emb y 1).val = (y 1).val := by blk_simp [idx t]
  have hy : (y : S256x4096.Idx) = ix2 ⟨(y 0).val, hy0⟩ ⟨(y 1).val, hy1⟩ := by funext a; fin_cases a <;> rfl
  refine (congrArg (outsAt0 m c t.val t.isLt).1 hy).trans ((e _ _).trans ?_)
  exact resO_of (argQ m c) (argK m c) (argV m c) (argG m c) _ (t.val % 8 * 256 + (y 0).val) _ _ _ _ (by show _ = t.val / 8 * 2048 + (t.val % 8 * 256 + (y 0).val); rw [e0]; omega)
    (by show t.val % 8 * 256 + (y 0).val < 2048; omega) rfl (Fin.ext e1)

/-- The points at which the state is written back are the last of each batch. -/
theorem last_of_flush : ∀ t : Fin cfg0.N, (cfg0.win 9).flush t = true → t.val % 8 = 7 :=
  (by decide +kernel : ∀ t : Fin grid0.N, _)

/-- The second result array. -/
theorem arr9 (c : Dev nD) (fk : Fin4 (argK m c)) (fv : Fin4 (argV m c)) :
    (dats m 0 c).arrAt 9 cfg0.N
      = (fun y => resS (argK m c) (argV m c) (y 0) (y 1) (y 2) (y 3) : FVec Ideal S4x8x256x512 .f32) := by
  refine (dats m 0 c).arrAt_eq_of_covers 9 _ (by decide +kernel) fun t hf y => ?_
  have h7 := last_of_flush t hf
  blk_simp
  rw [after0_9]
  have ht := N_lt t
  have e := state_real m (argK m c) (argV m c) c (fun _ _ _ _ => rfl) (fun _ _ _ _ => rfl) fk fv t.val t.isLt
    ⟨t.val / 8, by omega⟩ (t.val % 8) (by show t.val = t.val / 8 * 8 + t.val % 8; omega) (by omega)
  have hy0 : (y 0).val < 1 := (y 0).isLt
  have e0 : ((win0_9.blk t).view.emb y 0).val = t.val / 8 := by blk_simp [idx t]
  have e1 : ((win0_9.blk t).view.emb y 1).val = (y 1).val := by blk_simp [idx t]
  have e2 : ((win0_9.blk t).view.emb y 2).val = (y 2).val := by blk_simp [idx t]
  have e3 : ((win0_9.blk t).view.emb y 3).val = (y 3).val := by blk_simp [idx t]
  have hy : (y : S1x8x256x512.Idx) = ix4 0 (y 1) (y 2) (y 3) := by
    funext a; fin_cases a
    · exact Fin.ext (by show (y 0).val = 0; omega)
    all_goals rfl
  refine (congrArg (outsAt0 m c t.val t.isLt).2 hy).trans ((e _ _ _).trans ?_)
  rw [show (t.val % 8 + 1) * 256 = 2048 by omega]
  show resS (argK m c) (argV m c) ⟨t.val / 8, by omega⟩ (y 1) (y 2) (y 3) = _
  congr 1
  · exact Fin.ext e0.symm
  · exact Fin.ext e1.symm
  · exact Fin.ext e2.symm
  · exact Fin.ext e3.symm

end Cert.KernelIdeal.Final
-- ==== Proof.RStep.lean ====
module

public import proofs.«01_k».proof.Proof.Gen.ReferenceIdeal.Run
public import proofs.«01_k».proof.Proof.Decay
public import Idealize.ShloMosaic.Lib.Pipeline.ValueKit
public import Idealize.ShloMosaic.Lib.Pointwise
public import Idealize.ShloMosaic.Lib.DynamicIndex
public import Idealize.ShloMosaic.Lib.StableHlo.RunLoop
public import Idealize.ShloMosaic.Lib.StableHlo.RunRead

/-! One trip of the reference's loop over chunks, and what the loop starts from, read at an index. -/

@[expose] public section

set_option maxRecDepth 16384

noncomputable section

namespace Cert.ReferenceIdeal.Step

open Idealize.ShloMosaic Idealize.ShloMosaic.TcCoe Idealize.SL.Sem
open Idealize.ShloMosaic.StableHlo (entryContents)
open Cert.ReferenceIdeal Cert.ReferenceIdeal.Value Cert.Retention

variable (m : (ℓ : Loc nD τ sig) → Buf (Elt Ideal) ℓ)

/-- The queries, chunk by chunk. -/
theorem q_chunk (c : Dev nD) (a : Fin 16) (b : Fin 4) (i : Fin 128) (h : Fin 8) (d : Fin 256) :
    (entryContents preI m c (Proc.devRef .tc main_v53_0) : FVec Ideal S16x4x128x8x256 .f32) (ix5 a b i h d)
      = ((m (c, Proc.devRef .tc main_arg0) : FVec Ideal S4x2048x8x256 .f32) (ix4 b ⟨a.val * 128 + i.val, by omega⟩ h d) : EReal) := by
  unfold entryContents
  simp only [StableHlo.afterL_cons, StableHlo.afterL_nil]
  after_reads_simp
  simp only [StableHlo.TRef.toBuf, StableHlo.TRef.ofBuf, cast_eq, id_eq]
  pointwise [LG]

/-- The keys, chunk by chunk. -/
theorem k_chunk (c : Dev nD) (a : Fin 16) (b : Fin 4) (i : Fin 128) (h : Fin 8) (d : Fin 256) :
    (entryContents preI m c (Proc.devRef .tc main_v53_1) : FVec Ideal S16x4x128x8x256 .f32) (ix5 a b i h d)
      = ((m (c, Proc.devRef .tc main_arg1) : FVec Ideal S4x2048x8x256 .f32) (ix4 b ⟨a.val * 128 + i.val, by omega⟩ h d) : EReal) := by
  unfold entryContents
  simp only [StableHlo.afterL_cons, StableHlo.afterL_nil]
  after_reads_simp
  simp only [StableHlo.TRef.toBuf, StableHlo.TRef.ofBuf, cast_eq, id_eq]
  pointwise [LG]

/-- The values, chunk by chunk. -/
theorem v_chunk (c : Dev nD) (a : Fin 16) (b : Fin 4) (i : Fin 128) (h : Fin 8) (d : Fin 512) :
    (entryContents preI m c (Proc.devRef .tc main_v53_2) : FVec Ideal S16x4x128x8x512 .f32) (ix5 a b i h d)
      = ((m (c, Proc.devRef .tc main_arg2) : FVec Ideal S4x2048x8x512 .f32) (ix4 b ⟨a.val * 128 + i.val, by omega⟩ h d) : EReal) := by
  unfold entryContents
  simp only [StableHlo.afterL_cons, StableHlo.afterL_nil]
  after_reads_simp
  simp only [StableHlo.TRef.toBuf, StableHlo.TRef.ofBuf, cast_eq, id_eq]
  pointwise [LG]

/-- The decay between two rows of a chunk. -/
theorem decay_entry (c : Dev nD) (h : Fin 8) (i j : Fin 128) :
    (entryContents preI m c (Proc.devRef .tc main_v53_3) : FVec Ideal S8x128x128 .f32) (ix3 h i j)
      = ((if 0 ≤ FloatOps.sitofp (F := Ideal) .f32 (BitVec.ofNat 32 i.val) - FloatOps.sitofp (F := Ideal) .f32 (BitVec.ofNat 32 j.val) then
          Ideal.exp (max (FloatOps.sitofp (F := Ideal) .f32 (BitVec.ofNat 32 i.val) - FloatOps.sitofp (F := Ideal) .f32 (BitVec.ofNat 32 j.val)) 0 * LG h)
        else 0 : EReal) : EReal) := by
  unfold entryContents
  simp only [StableHlo.afterL_cons, StableHlo.afterL_nil]
  after_reads_simp
  simp only [StableHlo.TRef.toBuf, StableHlo.TRef.ofBuf, cast_eq, id_eq]
  pointwise [LG]

/-- The weight of the carried state at a row of a chunk. -/
theorem qdec_entry (c : Dev nD) (i : Fin 128) (h : Fin 8) :
    (entryContents preI m c (Proc.devRef .tc main_v53_4) : FVec Ideal S128x8 .f32) (ix2 i h)
      = (Ideal.exp ((FloatOps.sitofp (F := Ideal) .f32 (BitVec.ofNat 32 i.val) + 1) * LG h) : EReal) := by
  unfold entryContents
  simp only [StableHlo.afterL_cons, StableHlo.afterL_nil]
  after_reads_simp
  simp only [StableHlo.TRef.toBuf, StableHlo.TRef.ofBuf, cast_eq, id_eq]
  pointwise [LG]

/-- The decay over one chunk. -/
theorem cdec_entry (c : Dev nD) (h : Fin 8) :
    (entryContents preI m c (Proc.devRef .tc main_v53_5) : FVec Ideal S8 .f32) (ix1 h)
      = (Ideal.exp (Ideal.ofBits .f32 1124073472#32 * LG h) : EReal) := by
  unfold entryContents
  simp only [StableHlo.afterL_cons, StableHlo.afterL_nil]
  after_reads_simp
  simp only [StableHlo.TRef.toBuf, StableHlo.TRef.ofBuf, cast_eq, id_eq]
  pointwise [LG]

/-- The decay from a row to the end of its chunk. -/
theorem kdec_entry (c : Dev nD) (i : Fin 128) (h : Fin 8) :
    (entryContents preI m c (Proc.devRef .tc main_v53_6) : FVec Ideal S128x8 .f32) (ix2 i h)
      = (Ideal.exp ((Ideal.ofBits .f32 1123942400#32 - FloatOps.sitofp (F := Ideal) .f32 (BitVec.ofNat 32 i.val)) * LG h) : EReal) := by
  unfold entryContents
  simp only [StableHlo.afterL_cons, StableHlo.afterL_nil]
  after_reads_simp
  simp only [StableHlo.TRef.toBuf, StableHlo.TRef.ofBuf, cast_eq, id_eq]
  pointwise [LG]

/-- The state before the first chunk. -/
theorem state_entry (c : Dev nD) (b : Fin 4) (h : Fin 8) (d : Fin 256) (e : Fin 512) :
    (entryContents preI m c (Proc.devRef .tc main_v53_8) : FVec Ideal S4x8x256x512 .f32) (ix4 b h d e)
      = (0 : EReal) := by
  unfold entryContents
  simp only [StableHlo.afterL_cons, StableHlo.afterL_nil]
  after_reads_simp
  simp only [StableHlo.TRef.toBuf, StableHlo.TRef.ofBuf, cast_eq, id_eq]
  pointwise [LG]

/-- The trip's number, read signed. -/
theorem toInt_trip : ∀ k : Fin 16, (BitVec.ofNat 32 k.val).toInt = ((k.val : ℕ) : ℤ) := by decide

/-- Every chunk lies inside the array of chunks. -/
theorem slices256 : ∀ k : Fin 16, S16x4x128x8x256.Slices ![k.val, 0, 0, 0, 0] S1x4x128x8x256 := by decide

/-- The queries of the trip's chunk. -/
theorem q_trip (V0 : Valuation τ sig (Elt Ideal)) (k : Fin 16) (hk : V0 (Proc.devRef .tc main_v53_7) = fun _ => BitVec.ofNat 32 k.val)
    (b : Fin 4) (i : Fin 128) (h : Fin 8) (d : Fin 256) :
    (res_main_while0b_v71 V0 : FVec Ideal S4x128x8x256 .f32) (ix4 b i h d) = (V0 (Proc.devRef .tc main_v53_0) : FVec Ideal S16x4x128x8x256 .f32) (ix5 k b i h d) := by
  unfold res_main_while0b_v71
  rw [hk, Host.dynamicSlice_eq_extractStridedSlice _ _ _ ![k.val, 0, 0, 0, 0] _ (slices256 k) (by
    intro a
    fin_cases a
    · exact toInt_trip k
    all_goals rfl)]
  pointwise

/-- The keys of the trip's chunk. -/
theorem k_trip (V0 : Valuation τ sig (Elt Ideal)) (k : Fin 16) (hk : V0 (Proc.devRef .tc main_v53_7) = fun _ => BitVec.ofNat 32 k.val)
    (b : Fin 4) (i : Fin 128) (h : Fin 8) (d : Fin 256) :
    (res_main_while0b_v72 V0 : FVec Ideal S4x128x8x256 .f32) (ix4 b i h d) = (V0 (Proc.devRef .tc main_v53_1) : FVec Ideal S16x4x128x8x256 .f32) (ix5 k b i h d) := by
  unfold res_main_while0b_v72
  rw [hk, Host.dynamicSlice_eq_extractStridedSlice _ _ _ ![k.val, 0, 0, 0, 0] _ (slices256 k) (by
    intro a
    fin_cases a
    · exact toInt_trip k
    all_goals rfl)]
  pointwise

/-- Every chunk lies inside the array of chunks. -/
theorem slices512 : ∀ k : Fin 16, S16x4x128x8x512.Slices ![k.val, 0, 0, 0, 0] S1x4x128x8x512 := by decide

/-- The values of the trip's chunk. -/
theorem v_trip (V0 : Valuation τ sig (Elt Ideal)) (k : Fin 16) (hk : V0 (Proc.devRef .tc main_v53_7) = fun _ => BitVec.ofNat 32 k.val)
    (b : Fin 4) (i : Fin 128) (h : Fin 8) (d : Fin 512) :
    (res_main_while0b_v73 V0 : FVec Ideal S4x128x8x512 .f32) (ix4 b i h d) = (V0 (Proc.devRef .tc main_v53_2) : FVec Ideal S16x4x128x8x512 .f32) (ix5 k b i h d) := by
  unfold res_main_while0b_v73
  rw [hk, Host.dynamicSlice_eq_extractStridedSlice _ _ _ ![k.val, 0, 0, 0, 0] _ (slices512 k) (by
    intro a
    fin_cases a
    · exact toInt_trip k
    all_goals rfl)]
  pointwise

/-- The queries by chunks. -/
abbrev carried0 (V0 : Valuation τ sig (Elt Ideal)) : FVec Ideal S16x4x128x8x256 .f32 := V0 (Proc.devRef .tc main_v53_0)
/-- The keys by chunks. -/
abbrev carried1 (V0 : Valuation τ sig (Elt Ideal)) : FVec Ideal S16x4x128x8x256 .f32 := V0 (Proc.devRef .tc main_v53_1)
/-- The values by chunks. -/
abbrev carried2 (V0 : Valuation τ sig (Elt Ideal)) : FVec Ideal S16x4x128x8x512 .f32 := V0 (Proc.devRef .tc main_v53_2)
/-- The decay inside a chunk. -/
abbrev carried3 (V0 : Valuation τ sig (Elt Ideal)) : FVec Ideal S8x128x128 .f32 := V0 (Proc.devRef .tc main_v53_3)
/-- The weight of the carried state. -/
abbrev carried4 (V0 : Valuation τ sig (Elt Ideal)) : FVec Ideal S128x8 .f32 := V0 (Proc.devRef .tc main_v53_4)
/-- The decay over a chunk. -/
abbrev carried5 (V0 : Valuation τ sig (Elt Ideal)) : FVec Ideal S8 .f32 := V0 (Proc.devRef .tc main_v53_5)
/-- The weight of the keys. -/
abbrev carried6 (V0 : Valuation τ sig (Elt Ideal)) : FVec Ideal S128x8 .f32 := V0 (Proc.devRef .tc main_v53_6)
/-- The state. -/
abbrev carried8 (V0 : Valuation τ sig (Elt Ideal)) : FVec Ideal S4x8x256x512 .f32 := V0 (Proc.devRef .tc main_v53_8)
/-- The outputs by chunks. -/
abbrev carried9 (V0 : Valuation τ sig (Elt Ideal)) : FVec Ideal S16x4x128x8x512 .f32 := V0 (Proc.devRef .tc main_v53_9)

/-- The state after a trip: the old state decayed over the chunk, plus the chunk's weighted keys times its values. -/
theorem state_trip (V0 : Valuation τ sig (Elt Ideal)) (k : Fin 16) (hk : V0 (Proc.devRef .tc main_v53_7) = fun _ => BitVec.ofNat 32 k.val)
    (b : Fin 4) (h : Fin 8) (d : Fin 256) (e : Fin 512) :
    carried8 (STEP V0) (ix4 b h d e)
      = carried8 V0 (ix4 b h d e) * carried5 V0 (ix1 h)
        + ∑ j : Fin 128, (carried1 V0 (ix5 k b j h d) * carried6 V0 (ix2 j h)) * carried2 V0 (ix5 k b j h e) := by
  unfold carried8
  rw [STEP_main_v53_8]
  unfold step_main_v53_8
  simp only [id_eq]
  pointwise
  simp only [k_trip V0 k hk, v_trip V0 k hk]

/-- The outputs after a trip: the trip's chunk is written, the others stay. -/
theorem out_trip (V0 : Valuation τ sig (Elt Ideal)) (k : Fin 16) (hk : V0 (Proc.devRef .tc main_v53_7) = fun _ => BitVec.ofNat 32 k.val)
    (a : Fin 16) (b : Fin 4) (i : Fin 128) (h : Fin 8) (e : Fin 512) :
    carried9 (STEP V0) (ix5 a b i h e)
      = if a = k then
          (∑ j : Fin 128, carried2 V0 (ix5 k b j h e)
              * ((∑ d : Fin 256, carried0 V0 (ix5 k b i h d) * carried1 V0 (ix5 k b j h d)) * carried3 V0 (ix3 h i j)))
            + ∑ d : Fin 256, carried8 V0 (ix4 b h d e) * (carried0 V0 (ix5 k b i h d) * carried4 V0 (ix2 i h))
        else carried9 V0 (ix5 a b i h e) := by
  unfold carried9
  rw [STEP_main_v53_9]
  unfold step_main_v53_9
  simp only [id_eq]
  rw [hk, Host.dynamicUpdateSlice_eq_updateSlice _ _ _ _ ![k.val, 0, 0, 0, 0] (by
    intro a
    fin_cases a
    · show (min (max (BitVec.ofNat 32 k.val).toInt 0) _).toNat = k.val
      rw [toInt_trip k]
      show (min (max ((k.val : ℕ) : ℤ) 0) ((15 : ℕ) : ℤ)).toNat = k.val
      omega
    all_goals rfl) (slices512 k)]
  pointwise
  simp only [q_trip V0 k hk, k_trip V0 k hk, v_trip V0 k hk]
  refine if_congr ⟨fun hh => ?_, fun hh => ?_⟩ rfl rfl
  · have := hh 0
    exact Fin.ext (by simp only [Matrix.cons_val_zero] at this; have h2 : a.val < k.val + 1 := this.2; have h1 : k.val ≤ a.val := this.1; omega)
  · subst hh
    intro z
    fin_cases z
    · exact ⟨le_refl _, Nat.lt_succ_self _⟩
    · exact ⟨Nat.zero_le _, by show b.val < 0 + 4; omega⟩
    · exact ⟨Nat.zero_le _, by show i.val < 0 + 128; omega⟩
    · exact ⟨Nat.zero_le _, by show h.val < 0 + 8; omega⟩
    · exact ⟨Nat.zero_le _, by show e.val < 0 + 512; omega⟩

end Cert.ReferenceIdeal.Step
-- ==== Proof.RLoop.lean ====
module

public import proofs.«01_k».proof.Proof.Gen.ReferenceIdeal.Run
public import proofs.«01_k».proof.Proof.Decay
public import proofs.«01_k».proof.Proof.RStep
public import Idealize.ShloMosaic.Lib.Pipeline.ValueKit
public import Idealize.ShloMosaic.Lib.Pointwise
public import Idealize.ShloMosaic.Lib.StableHlo.RunLoop
public import Idealize.ShloMosaic.Lib.StableHlo.RunRead

/-! The reference's loop over chunks: after all trips it holds the recurrence's state and every token's output. -/

@[expose] public section

set_option maxRecDepth 16384

noncomputable section

namespace Cert.ReferenceIdeal.Loop

open Idealize.ShloMosaic Idealize.ShloMosaic.TcCoe Idealize.SL.Sem
open Idealize.ShloMosaic.StableHlo (entryContents)
open Cert.ReferenceIdeal Cert.ReferenceIdeal.Step Cert.ReferenceIdeal.Value Cert.Retention

variable (m : (ℓ : Loc nD τ sig) → Buf (Elt Ideal) ℓ)

/-- The carried buffers after `k` trips. -/
abbrev W (c : Dev nD) (k : ℕ) : Valuation τ sig (Elt Ideal) := STEP^[k] (entryContents preI m c)

/-- One more trip is one more step. -/
theorem W_succ (c : Dev nD) (k : ℕ) : W m c (k + 1) = STEP (W m c k) := Function.iterate_succ_apply' STEP k _

/-- The trip counter. -/
theorem W_ctr (c : Dev nD) : ∀ k, W m c k (Proc.devRef .tc main_v53_7) = fun _ => BitVec.ofNat 32 k
  | 0 => ctr_entry m c
  | k + 1 => by
    rw [W_succ, STEP_main_v53_7]
    unfold step_main_v53_7
    rw [W_ctr c k]
    funext x
    show BitVec.ofNat 32 k + 1#32 = BitVec.ofNat 32 (k + 1)
    rw [BitVec.ofNat_add]

/-- The loop keeps carried value 0. -/
theorem W_keep0 (c : Dev nD) : ∀ k, carried0 (W m c k) = carried0 (entryContents preI m c)
  | 0 => rfl
  | k + 1 => by
    rw [W_succ]; unfold carried0; rw [STEP_main_v53_0]; exact W_keep0 c k

/-- The loop keeps carried value 1. -/
theorem W_keep1 (c : Dev nD) : ∀ k, carried1 (W m c k) = carried1 (entryContents preI m c)
  | 0 => rfl
  | k + 1 => by
    rw [W_succ]; unfold carried1; rw [STEP_main_v53_1]; exact W_keep1 c k

/-- The loop keeps carried value 2. -/
theorem W_keep2 (c : Dev nD) : ∀ k, carried2 (W m c k) = carried2 (entryContents preI m c)
  | 0 => rfl
  | k + 1 => by
    rw [W_succ]; unfold carried2; rw [STEP_main_v53_2]; exact W_keep2 c k

/-- The loop keeps carried value 3. -/
theorem W_keep3 (c : Dev nD) : ∀ k, carried3 (W m c k) = carried3 (entryContents preI m c)
  | 0 => rfl
  | k + 1 => by
    rw [W_succ]; unfold carried3; rw [STEP_main_v53_3]; exact W_keep3 c k

/-- The loop keeps carried value 4. -/
theorem W_keep4 (c : Dev nD) : ∀ k, carried4 (W m c k) = carried4 (entryContents preI m c)
  | 0 => rfl
  | k + 1 => by
    rw [W_succ]; unfold carried4; rw [STEP_main_v53_4]; exact W_keep4 c k

/-- The loop keeps carried value 5. -/
theorem W_keep5 (c : Dev nD) : ∀ k, carried5 (W m c k) = carried5 (entryContents preI m c)
  | 0 => rfl
  | k + 1 => by
    rw [W_succ]; unfold carried5; rw [STEP_main_v53_5]; exact W_keep5 c k

/-- The loop keeps carried value 6. -/
theorem W_keep6 (c : Dev nD) : ∀ k, carried6 (W m c k) = carried6 (entryContents preI m c)
  | 0 => rfl
  | k + 1 => by
    rw [W_succ]; unfold carried6; rw [STEP_main_v53_6]; exact W_keep6 c k

variable (q k : Fin 4 → Fin 2048 → Fin 8 → Fin 256 → EReal) (v : Fin 4 → Fin 2048 → Fin 8 → Fin 512 → EReal)

/-- The state after `t` chunks is the recurrence's state after their tokens. -/
theorem W_state (c : Dev nD) (hk : ∀ b n h d, (m (c, Proc.devRef .tc main_arg1) : FVec Ideal S4x2048x8x256 .f32) (ix4 b n h d) = k b n h d)
    (hv : ∀ b n h d, (m (c, Proc.devRef .tc main_arg2) : FVec Ideal S4x2048x8x512 .f32) (ix4 b n h d) = v b n h d)
    (fk : Fin4 k) (fv : Fin4 v) : ∀ t, t ≤ 16 → ∀ (b : Fin 4) (h : Fin 8) (d : Fin 256) (e : Fin 512),
      carried8 (W m c t) (ix4 b h d e) = ((St (Lr h) (seq k b h) (seq v b h) (t * 128) d e : ℝ) : EReal)
  | 0, _, b, h, d, e => by rw [Nat.zero_mul, St_zero]; exact (state_entry m c b h d e).trans EReal.coe_zero.symm
  | t + 1, ht, b, h, d, e => by
    rw [W_succ, state_trip _ ⟨t, by omega⟩ (W_ctr m c t), W_state c hk hv fk fv t (by omega) b h d e,
      W_keep5, W_keep6, W_keep1, W_keep2]
    have e5 : carried5 (entryContents preI m c) (ix1 h) = ((Real.exp (((128 : ℕ) : ℝ) * Lr h) : ℝ) : EReal) := by
      refine (cdec_entry m c h).trans ?_
      rw [bits_128, LG_eq, ← EReal.coe_mul, Ideal.exp_coe]; norm_num
    have e6 : ∀ j : Fin 128, carried6 (entryContents preI m c) (ix2 j h) = ((Real.exp ((((128 : ℕ) : ℝ) - 1 - j.val) * Lr h) : ℝ) : EReal) := by
      intro j
      refine (kdec_entry m c j h).trans ?_
      rw [bits_127, LG_eq, nat_cast _ (by omega), ← EReal.coe_sub, ← EReal.coe_mul, Ideal.exp_coe]; norm_num
    have e1 : ∀ j : Fin 128, carried1 (entryContents preI m c) (ix5 ⟨t, by omega⟩ b j h d) = ((seq k b h (t * 128 + j.val) d : ℝ) : EReal) := by
      intro j
      exact ((k_chunk m c _ b j h d).trans (hk _ _ _ _)).trans (fk.at _ _ _ _ _ rfl)
    have e2 : ∀ j : Fin 128, carried2 (entryContents preI m c) (ix5 ⟨t, by omega⟩ b j h e) = ((seq v b h (t * 128 + j.val) e : ℝ) : EReal) := by
      intro j
      exact ((v_chunk m c _ b j h e).trans (hv _ _ _ _)).trans (fv.at _ _ _ _ _ rfl)
    simp only [e5, e6, e1, e2, ← EReal.coe_mul, coe_sum, ← EReal.coe_add]
    rw [Nat.add_mul, Nat.one_mul, St_add]

/-- Every chunk that has been passed holds the recurrence's outputs. -/
theorem W_out (c : Dev nD) (hq : ∀ b n h d, (m (c, Proc.devRef .tc main_arg0) : FVec Ideal S4x2048x8x256 .f32) (ix4 b n h d) = q b n h d)
    (hk : ∀ b n h d, (m (c, Proc.devRef .tc main_arg1) : FVec Ideal S4x2048x8x256 .f32) (ix4 b n h d) = k b n h d)
    (hv : ∀ b n h d, (m (c, Proc.devRef .tc main_arg2) : FVec Ideal S4x2048x8x512 .f32) (ix4 b n h d) = v b n h d)
    (fq : Fin4 q) (fk : Fin4 k) (fv : Fin4 v) : ∀ t, t ≤ 16 → ∀ (a : Fin 16) (_ : a.val < t) (b : Fin 4) (i : Fin 128) (h : Fin 8) (e : Fin 512),
      carried9 (W m c t) (ix5 a b i h e) = ((Ot (Lr h) (seq q b h) (seq k b h) (seq v b h) (a.val * 128 + i.val) e : ℝ) : EReal)
  | 0, _, a, ha, b, i, h, e => absurd ha (Nat.not_lt_zero _)
  | t + 1, ht, a, ha, b, i, h, e => by
    rw [W_succ, out_trip _ ⟨t, by omega⟩ (W_ctr m c t)]
    by_cases hat : a = ⟨t, by omega⟩
    · rw [if_pos hat, W_keep0, W_keep1, W_keep2, W_keep3, W_keep4]
      have hs := fun d => W_state m k v c hk hv fk fv t (by omega) b h d e
      have e3 : ∀ j : Fin 128, carried3 (entryContents preI m c) (ix3 h i j) = ((if j.val ≤ i.val then Real.exp (((i.val : ℝ) - j.val) * Lr h) else 0 : ℝ) : EReal) :=
        fun j => (decay_entry m c h i j).trans (decay_real h i.val j.val (by omega) (by omega))
      have e4 : carried4 (entryContents preI m c) (ix2 i h) = ((Real.exp (((i.val : ℝ) + 1) * Lr h) : ℝ) : EReal) :=
        (qdec_entry m c i h).trans (qdec_real h i.val (by omega))
      have e0 : ∀ d, carried0 (entryContents preI m c) (ix5 ⟨t, by omega⟩ b i h d) = ((seq q b h (t * 128 + i.val) d : ℝ) : EReal) :=
        fun d => ((q_chunk m c _ b i h d).trans (hq _ _ _ _)).trans (fq.at _ _ _ _ _ rfl)
      have e1 : ∀ (j : Fin 128) d, carried1 (entryContents preI m c) (ix5 ⟨t, by omega⟩ b j h d) = ((seq k b h (t * 128 + j.val) d : ℝ) : EReal) :=
        fun j d => ((k_chunk m c _ b j h d).trans (hk _ _ _ _)).trans (fk.at _ _ _ _ _ rfl)
      have e2 : ∀ j : Fin 128, carried2 (entryContents preI m c) (ix5 ⟨t, by omega⟩ b j h e) = ((seq v b h (t * 128 + j.val) e : ℝ) : EReal) :=
        fun j => ((v_chunk m c _ b j h e).trans (hv _ _ _ _)).trans (fv.at _ _ _ _ _ rfl)
      simp only [hs, e3, e4, e0, e1, e2, ← EReal.coe_mul, coe_sum, ← EReal.coe_add]
      rw [show a.val = t from congrArg Fin.val hat, Ot_add, Finset.mul_sum]
      congr 1
      congr 1
      · exact Finset.sum_congr rfl fun j _ => by ring
      · exact Finset.sum_congr rfl fun j _ => by ring
    · rw [if_neg hat]
      exact W_out c hq hk hv fq fk fv t (by omega) a (by
        have : a.val ≠ t := fun hh => hat (Fin.ext hh)
        omega) b i h e

end Cert.ReferenceIdeal.Loop
-- ==== Proof.ROut.lean ====
module

public import proofs.«01_k».proof.Proof.Gen.ReferenceIdeal.Run
public import proofs.«01_k».proof.Proof.Decay
public import proofs.«01_k».proof.Proof.RStep
public import Idealize.ShloMosaic.Lib.Pipeline.ValueKit
public import Idealize.ShloMosaic.Lib.Pointwise
public import Idealize.ShloMosaic.Lib.StableHlo.RunLoop
public import Idealize.ShloMosaic.Lib.StableHlo.RunRead

/-! What the reference does with the outputs after its loop. -/

@[expose] public section

set_option maxRecDepth 16384

noncomputable section

namespace Cert.ReferenceIdeal.Out

open Idealize.ShloMosaic Idealize.ShloMosaic.TcCoe Idealize.SL.Sem
open Idealize.ShloMosaic.StableHlo (entryContents)
open Cert.ReferenceIdeal Cert.ReferenceIdeal.Step Cert.ReferenceIdeal.Value Cert.Retention

/-- The first result: every head's outputs, normed and gated, in the order of the rows. -/
theorem out_at (V0 : Valuation τ sig (Elt Ideal)) (r : Fin 8192) (l : Fin 4096) (b : Fin 4) (a : Fin 16) (i : Fin 128) (h : Fin 8) (e : Fin 512)
    (n : Fin 2048) (hn : n.val = a.val * 128 + i.val) (hr : r.val = b.val * 2048 + n.val) (hl : l.val = h.val * 512 + e.val) :
    (out_main_v70 V0 : FVec Ideal S8192x4096 .bf16) (ix2 r l)
      = gated (fun e => carried9 V0 (ix5 a b i h e)) ((V0 (Proc.devRef .tc main_arg3) : FVec Ideal S4x2048x4096 .f32) (ix3 b n l)) e := by
  unfold out_main_v70
  pointwise [gated, Ideal.logistic]
  blk_point []

end Cert.ReferenceIdeal.Out
-- ==== Proof.RFinal.lean ====
module

public import proofs.«01_k».proof.Proof.Gen.ReferenceIdeal.Run
public import proofs.«01_k».proof.Proof.RLoop
public import proofs.«01_k».proof.Proof.ROut
public import proofs.«01_k».proof.Proof.Result
public import Idealize.ShloMosaic.Lib.Pipeline.ValueKit
public import Idealize.ShloMosaic.Lib.Pointwise

/-! The reference's two results after its loop. -/

@[expose] public section

set_option maxRecDepth 16384

noncomputable section

namespace Cert.ReferenceIdeal.Final

open Idealize.ShloMosaic Idealize.ShloMosaic.TcCoe Idealize.SL.Sem
open Idealize.ShloMosaic.StableHlo (entryContents)
open Cert.ReferenceIdeal Cert.ReferenceIdeal.Step Cert.ReferenceIdeal.Loop Cert.ReferenceIdeal.Out Cert.ReferenceIdeal.Value Cert.Retention

variable (m : (ℓ : Loc nD τ sig) → Buf (Elt Ideal) ℓ)
variable (q k : Fin 4 → Fin 2048 → Fin 8 → Fin 256 → EReal) (v : Fin 4 → Fin 2048 → Fin 8 → Fin 512 → EReal) (g : Fin 4 → Fin 2048 → Fin 4096 → EReal)

/-- The first result. -/
theorem res0 (c : Dev nD) (hq : ∀ b n h d, (m (c, Proc.devRef .tc main_arg0) : FVec Ideal S4x2048x8x256 .f32) (ix4 b n h d) = q b n h d)
    (hk : ∀ b n h d, (m (c, Proc.devRef .tc main_arg1) : FVec Ideal S4x2048x8x256 .f32) (ix4 b n h d) = k b n h d)
    (hv : ∀ b n h d, (m (c, Proc.devRef .tc main_arg2) : FVec Ideal S4x2048x8x512 .f32) (ix4 b n h d) = v b n h d)
    (hg : ∀ b n l, (m (c, Proc.devRef .tc main_arg3) : FVec Ideal S4x2048x4096 .f32) (ix3 b n l) = g b n l)
    (fq : Fin4 q) (fk : Fin4 k) (fv : Fin4 v) :
    (out_main_v70 (STEP^[16] (entryContents preI m c)) : FVec Ideal S8192x4096 .bf16) = fun y => resO q k v g (y 0) (y 1) := by
  funext y
  have hy0 : (y 0).val < 8192 := (y 0).isLt
  have hy1 : (y 1).val < 4096 := (y 1).isLt
  rw [show y = ix2 (y 0) (y 1) by funext a; fin_cases a <;> rfl]
  refine (out_at _ (y 0) (y 1) ⟨(y 0).val / 2048, by omega⟩ ⟨(y 0).val % 2048 / 128, by omega⟩ ⟨(y 0).val % 128, by omega⟩ ⟨(y 1).val / 512, by omega⟩
    ⟨(y 1).val % 512, by omega⟩ ⟨(y 0).val % 2048, by omega⟩ (by show _ % 2048 = _ % 2048 / 128 * 128 + _ % 128; omega)
    (by show (y 0).val = _ / 2048 * 2048 + _ % 2048; omega) (by show (y 1).val = _ / 512 * 512 + _ % 512; omega)).trans ?_
  show _ = resO q k v g (y 0) (y 1)
  unfold resO
  rw [iter_main_arg3]
  refine congrArg₂ (fun o x => gated o x _) (funext fun e => ?_) (hg _ _ _)
  refine (W_out m q k v c hq hk hv fq fk fv 16 le_rfl ⟨(y 0).val % 2048 / 128, by omega⟩ (by show _ % 2048 / 128 < 16; omega) _ _ _ e).trans ?_
  show ((Ot _ _ _ _ ((y 0).val % 2048 / 128 * 128 + (y 0).val % 128) e : ℝ) : EReal) = _
  rw [show (y 0).val % 2048 / 128 * 128 + (y 0).val % 128 = (y 0).val % 2048 by omega]

/-- The second result. -/
theorem res1 (c : Dev nD) (hk : ∀ b n h d, (m (c, Proc.devRef .tc main_arg1) : FVec Ideal S4x2048x8x256 .f32) (ix4 b n h d) = k b n h d)
    (hv : ∀ b n h d, (m (c, Proc.devRef .tc main_arg2) : FVec Ideal S4x2048x8x512 .f32) (ix4 b n h d) = v b n h d)
    (fk : Fin4 k) (fv : Fin4 v) :
    ((STEP^[16] (entryContents preI m c)) (Proc.devRef .tc main_v53_8) : FVec Ideal S4x8x256x512 .f32) = fun y => resS k v (y 0) (y 1) (y 2) (y 3) := by
  funext y
  have e := W_state m k v c hk hv fk fv 16 le_rfl (y 0) (y 1) (y 2) (y 3)
  rw [show y = ix4 (y 0) (y 1) (y 2) (y 3) by funext a; fin_cases a <;> rfl]
  exact e

end Cert.ReferenceIdeal.Final
-- ==== Proof.lean ====
module

public import proofs.«01_k».proof.Proof.Gen.KernelIdeal.Value
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Merge.Frame
public import proofs.«01_k».proof.Proof.Gen.MergeIdeal.Value
public import proofs.«01_k».proof.Proof.Gen.MergeRefIdeal.Run
public import proofs.«01_k».proof.Proof.MergeValue
public import proofs.«01_k».proof.Proof.Gen.Rest.Frame
public import proofs.«01_k».proof.Proof.Gen.RestIdeal.Value
public import proofs.«01_k».proof.Proof.Gen.RestRefIdeal.Run
public import proofs.«01_k».proof.Proof.RestValue
public import proofs.«01_k».proof.Proof.Gen.Vals.Frame
public import proofs.«01_k».proof.Proof.Gen.ValsIdeal.Value
public import proofs.«01_k».proof.Proof.Gen.ValsRefIdeal.Run
public import proofs.«01_k».proof.Proof.ValsValue
public import proofs.«01_k».proof.Proof.Gen.Glu.Frame
public import proofs.«01_k».proof.Proof.Gen.GluIdeal.Value
public import proofs.«01_k».proof.Proof.Gen.GluRefIdeal.Run
public import proofs.«01_k».proof.Proof.GluValue
public import proofs.«01_k».proof.Proof.Gen.Outproj.Frame
public import proofs.«01_k».proof.Proof.Gen.OutprojIdeal.Value
public import proofs.«01_k».proof.Proof.Gen.OutprojRefIdeal.Run
public import proofs.«01_k».proof.Proof.OutprojValue
public import proofs.«01_k».proof.Proof.Gen.Rope.Frame
public import proofs.«01_k».proof.Proof.Gen.RopeIdeal.Value
public import proofs.«01_k».proof.Proof.Gen.RopeRefIdeal.Run
public import proofs.«01_k».proof.Proof.RopeValue
public import proofs.«01_k».proof.Proof.RopeCast
public import proofs.«01_k».proof.Proof.RopeRefVal
public import proofs.«01_k».proof.Proof.Finite
public import proofs.«01_k».proof.Proof.KFinal
public import proofs.«01_k».proof.Proof.RFinal
public import Idealize.ShloMosaic.Adequacy
public import Idealize.ShloMosaic.Init

@[expose] public section

noncomputable section

-- The frames also say that every semaphore counter ends at zero.

namespace Cert.Proof

open Idealize.ShloMosaic Idealize.SL.Sem

attribute [local instance] Cert.Pre_finite.facts

/-- The kernel as printed ends, without a fault, its arguments unchanged and its counters at zero. -/
theorem frame_p : Cert.quiescent_Kernel := fun m ρ _ => Cert.Kernel.Gen.frame m ρ

/-- So does the kernel read over the extended reals. -/
theorem frame_pi : Cert.quiescent_KernelIdeal := fun m ρ _ => Cert.KernelIdeal.Gen.frame m ρ

/-- The same under the precondition. -/
theorem frame_pi_pre : Cert.quiescent_KernelIdeal_pre_finite := fun m ρ _ => Cert.KernelIdeal.Gen.frame m ρ

/-- The reference ends, its arguments unchanged and its counters at zero: it has none. -/
theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run m ρ)

/-- The same under the precondition. -/
theorem frame_ri_pre : Cert.quiescent_ReferenceIdeal_pre_finite := fun m ρ _ => frame_ri m ρ trivial

/-- From finite queries, keys and values both programs end with the same two results. -/
theorem algebraic : Cert.algebraic_KernelIdeal_ReferenceIdeal_pre_finite := by
  intro m g m' g' hpre hagree
  have hf := fun c => Cert.Pre_finite.finite _ _ _ _ (hpre c)
  refine ⟨fun c => (fun y => Cert.Retention.resO (Cert.KernelIdeal.Final.argQ m c) (Cert.KernelIdeal.Final.argK m c)
      (Cert.KernelIdeal.Final.argV m c) (Cert.KernelIdeal.Final.argG m c) (y 0) (y 1) : FVec Ideal Cert.KernelIdeal.S8192x4096 .bf16),
    fun c => (fun y => Cert.Retention.resS (Cert.KernelIdeal.Final.argK m c)
      (Cert.KernelIdeal.Final.argV m c) (y 0) (y 1) (y 2) (y 3) : FVec Ideal Cert.KernelIdeal.S4x8x256x512 .f32), ?_, ?_⟩
  · refine (θ_run Cert.KernelIdeal.defs _ _).mono (fun r h c => ⟨(h c).1.trans ?_, (h c).2.1.trans ?_, (h c).2.2⟩)
      (Cert.KernelIdeal.Value.run_blocks m g)
    · exact Cert.KernelIdeal.Final.arr8 m c (hf c).1 (hf c).2.1 (hf c).2.2
    · exact Cert.KernelIdeal.Final.arr9 m c (hf c).2.1 (hf c).2.2
  · refine (θ_run Cert.ReferenceIdeal.defs _ _).mono (fun r h c => ⟨(h c).1.trans ?_, (h c).2.1.trans ?_, (h c).2.2⟩)
      (Cert.ReferenceIdeal.Value.run m' g')
    · exact Cert.ReferenceIdeal.Final.res0 m' _ _ _ _ c (fun b n h d => congrFun (hagree c).1 (ix4 b n h d))
        (fun b n h d => congrFun (hagree c).2.1 (ix4 b n h d)) (fun b n h d => congrFun (hagree c).2.2.1 (ix4 b n h d))
        (fun b n l => congrFun (hagree c).2.2.2 (ix3 b n l)) (hf c).1 (hf c).2.1 (hf c).2.2
    · exact Cert.ReferenceIdeal.Final.res1 m' _ _ c
        (fun b n h d => congrFun (hagree c).2.1 (ix4 b n h d)) (fun b n h d => congrFun (hagree c).2.2.1 (ix4 b n h d))
        (hf c).2.1 (hf c).2.2

/-- The kernel of the merge of the two branches as printed ends, without a fault, its arguments unchanged and its counters at zero. -/
theorem frame_merge_p : Cert.quiescent_Merge := fun m ρ _ => Cert.Merge.Gen.frame m ρ

/-- So does the kernel of the merge of the two branches read over the extended reals. -/
theorem frame_merge_pi : Cert.quiescent_MergeIdeal := fun m ρ _ => Cert.MergeIdeal.Gen.frame m ρ

/-- The reference of the merge of the two branches ends, its arguments unchanged and its counters at zero. -/
theorem frame_merge_ri : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run m ρ)

/-- The kernel of the merge of the two branches and its reference end with the same result from the same arguments. -/
theorem algebraic_merge : Cert.algebraic_MergeIdeal_MergeRefIdeal := by
  intro m g m' g' _ hagree
  refine ⟨fun c => Cert.MergeIdeal.Value.merged (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)), ?_, ?_⟩
  · refine (θ_run Cert.MergeIdeal.defs _ _).mono (fun r h c => ⟨(h c).1.trans ?_, (h c).2⟩)
      (Cert.MergeIdeal.Value.run_blocks m g)
    · exact Cert.MergeIdeal.Value.final m c
  · refine (θ_run Cert.MergeRefIdeal.defs _ _).mono (fun r h c => ⟨(h c).1.trans ?_, (h c).2⟩)
      (Cert.MergeRefIdeal.Value.run m' g')
    · rw [(hagree c).1, (hagree c).2.1, (hagree c).2.2.1, (hagree c).2.2.2.1, (hagree c).2.2.2.2] <;> rfl

/-- The kernel of the projection of the gates as printed ends, without a fault, its arguments unchanged and its counters at zero. -/
theorem frame_rest_p : Cert.quiescent_Rest := fun m ρ _ => Cert.Rest.Gen.frame m ρ

/-- So does the kernel of the projection of the gates read over the extended reals. -/
theorem frame_rest_pi : Cert.quiescent_RestIdeal := fun m ρ _ => Cert.RestIdeal.Gen.frame m ρ

/-- The reference of the projection of the gates ends, its arguments unchanged and its counters at zero. -/
theorem frame_rest_ri : Cert.quiescent_RestRefIdeal := fun m ρ _ =>
  (θ_run Cert.RestRefIdeal.defs _ _).mono (fun r h => ⟨fun c => (h c).2.2, sem_eq_zero_of_no_sems (by decide) r.2⟩)
    (Cert.RestRefIdeal.Value.run m ρ)

/-- The kernel of the projection of the gates and its reference end with the same results from the same arguments. -/
theorem algebraic_rest : Cert.algebraic_RestIdeal_RestRefIdeal := by
  intro m g m' g' _ hagree
  refine ⟨fun c => Cert.RestIdeal.Value.gates (m ((c.tc : Thread Cert.RestIdeal.nD Cert.RestIdeal.τ).loc Cert.RestIdeal.main_arg0)) (m ((c.tc : Thread Cert.RestIdeal.nD Cert.RestIdeal.τ).loc Cert.RestIdeal.main_arg1)),
    fun c => Cert.RestIdeal.Value.castw (m ((c.tc : Thread Cert.RestIdeal.nD Cert.RestIdeal.τ).loc Cert.RestIdeal.main_arg2)), ?_, ?_⟩
  · refine (θ_run Cert.RestIdeal.defs _ _).mono (fun r h c => ⟨(h c).1.trans ?_, (h c).2.1.trans ?_, (h c).2.2⟩)
      (Cert.RestIdeal.Value.run_blocks m g)
    · exact Cert.RestIdeal.Value.final m c
    · exact Cert.RestIdeal.Value.final_cast m c
  · refine (θ_run Cert.RestRefIdeal.defs _ _).mono (fun r h c => ⟨(h c).1.trans ?_, (h c).2.1.trans ?_, (h c).2.2⟩)
      (Cert.RestRefIdeal.Value.run m' g')
    · rw [(hagree c).1, (hagree c).2.1] <;> rfl
    · rw [(hagree c).2.2] <;> rfl

/-- The kernel of the projection of the values as printed ends, without a fault, its arguments unchanged and its counters at zero. -/
theorem frame_vals_p : Cert.quiescent_Vals := fun m ρ _ => Cert.Vals.Gen.frame m ρ

/-- So does the kernel of the projection of the values read over the extended reals. -/
theorem frame_vals_pi : Cert.quiescent_ValsIdeal := fun m ρ _ => Cert.ValsIdeal.Gen.frame m ρ

/-- The reference of the projection of the values ends, its arguments unchanged and its counters at zero. -/
theorem frame_vals_ri : Cert.quiescent_ValsRefIdeal := fun m ρ _ =>
  (θ_run Cert.ValsRefIdeal.defs _ _).mono (fun r h => ⟨fun c => (h c).2, sem_eq_zero_of_no_sems (by decide) r.2⟩)
    (Cert.ValsRefIdeal.Value.run m ρ)

/-- The kernel of the projection of the values and its reference end with the same result from the same arguments. -/
theorem algebraic_vals : Cert.algebraic_ValsIdeal_ValsRefIdeal := by
  intro m g m' g' _ hagree
  refine ⟨fun c => Cert.ValsIdeal.Value.values (m ((c.tc : Thread Cert.ValsIdeal.nD Cert.ValsIdeal.τ).loc Cert.ValsIdeal.main_arg0)) (m ((c.tc : Thread Cert.ValsIdeal.nD Cert.ValsIdeal.τ).loc Cert.ValsIdeal.main_arg1)), ?_, ?_⟩
  · refine (θ_run Cert.ValsIdeal.defs _ _).mono (fun r h c => ⟨(h c).1.trans ?_, (h c).2⟩)
      (Cert.ValsIdeal.Value.run_blocks m g)
    · exact Cert.ValsIdeal.Value.final m c
  · refine (θ_run Cert.ValsRefIdeal.defs _ _).mono (fun r h c => ⟨(h c).1.trans ?_, (h c).2⟩)
      (Cert.ValsRefIdeal.Value.run m' g')
    · rw [(hagree c).1, (hagree c).2] <;> rfl

/-- The kernel of the projection of the gated linear unit as printed ends, without a fault, its arguments unchanged and its counters at zero. -/
theorem frame_glu_p : Cert.quiescent_Glu := fun m ρ _ => Cert.Glu.Gen.frame m ρ

/-- So does the kernel of the projection of the gated linear unit read over the extended reals. -/
theorem frame_glu_pi : Cert.quiescent_GluIdeal := fun m ρ _ => Cert.GluIdeal.Gen.frame m ρ

/-- The reference of the projection of the gated linear unit ends, its arguments unchanged and its counters at zero. -/
theorem frame_glu_ri : Cert.quiescent_GluRefIdeal := fun m ρ _ =>
  (θ_run Cert.GluRefIdeal.defs _ _).mono (fun r h => ⟨fun c => (h c).2, sem_eq_zero_of_no_sems (by decide) r.2⟩)
    (Cert.GluRefIdeal.Value.run m ρ)

/-- The kernel of the projection of the gated linear unit and its reference end with the same result from the same arguments. -/
theorem algebraic_glu : Cert.algebraic_GluIdeal_GluRefIdeal := by
  intro m g m' g' _ hagree
  refine ⟨fun c => Cert.GluIdeal.Value.glu (m ((c.tc : Thread Cert.GluIdeal.nD Cert.GluIdeal.τ).loc Cert.GluIdeal.main_arg0)) (m ((c.tc : Thread Cert.GluIdeal.nD Cert.GluIdeal.τ).loc Cert.GluIdeal.main_arg1)), ?_, ?_⟩
  · refine (θ_run Cert.GluIdeal.defs _ _).mono (fun r h c => ⟨(h c).1.trans ?_, (h c).2⟩)
      (Cert.GluIdeal.Value.run_blocks m g)
    · exact Cert.GluIdeal.Value.final m c
  · refine (θ_run Cert.GluRefIdeal.defs _ _).mono (fun r h c => ⟨(h c).1.trans ?_, (h c).2⟩)
      (Cert.GluRefIdeal.Value.run m' g')
    · rw [(hagree c).1, (hagree c).2] <;> rfl

/-- The kernel of the output projection as printed ends, without a fault, its arguments unchanged and its counters at zero. -/
theorem frame_outproj_p : Cert.quiescent_Outproj := fun m ρ _ => Cert.Outproj.Gen.frame m ρ

/-- So does the kernel of the output projection read over the extended reals. -/
theorem frame_outproj_pi : Cert.quiescent_OutprojIdeal := fun m ρ _ => Cert.OutprojIdeal.Gen.frame m ρ

/-- The reference of the output projection ends, its arguments unchanged and its counters at zero. -/
theorem frame_outproj_ri : Cert.quiescent_OutprojRefIdeal := fun m ρ _ =>
  (θ_run Cert.OutprojRefIdeal.defs _ _).mono (fun r h => ⟨fun c => (h c).2, sem_eq_zero_of_no_sems (by decide) r.2⟩)
    (Cert.OutprojRefIdeal.Value.run m ρ)

/-- The kernel of the output projection and its reference end with the same result from the same arguments. -/
theorem algebraic_outproj : Cert.algebraic_OutprojIdeal_OutprojRefIdeal := by
  intro m g m' g' _ hagree
  refine ⟨fun c => Cert.OutprojIdeal.Value.outproj (m ((c.tc : Thread Cert.OutprojIdeal.nD Cert.OutprojIdeal.τ).loc Cert.OutprojIdeal.main_arg0)) (m ((c.tc : Thread Cert.OutprojIdeal.nD Cert.OutprojIdeal.τ).loc Cert.OutprojIdeal.main_arg1)) (m ((c.tc : Thread Cert.OutprojIdeal.nD Cert.OutprojIdeal.τ).loc Cert.OutprojIdeal.main_arg2)), ?_, ?_⟩
  · refine (θ_run Cert.OutprojIdeal.defs _ _).mono (fun r h c => ⟨(h c).1.trans ?_, (h c).2⟩)
      (Cert.OutprojIdeal.Value.run_blocks m g)
    · exact Cert.OutprojIdeal.Value.final m c
  · refine (θ_run Cert.OutprojRefIdeal.defs _ _).mono (fun r h c => ⟨(h c).1.trans ?_, (h c).2⟩)
      (Cert.OutprojRefIdeal.Value.run m' g')
    · rw [(hagree c).1, (hagree c).2.1, (hagree c).2.2] <;> rfl

/-- The kernel of the rotary projection as printed ends, without a fault, its arguments unchanged and its counters at zero. -/
theorem frame_rope_p : Cert.quiescent_Rope := fun m ρ _ => Cert.Rope.Gen.frame m ρ

/-- So does the kernel of the rotary projection read over the extended reals. -/
theorem frame_rope_pi : Cert.quiescent_RopeIdeal := fun m ρ _ => Cert.RopeIdeal.Gen.frame m ρ

/-- The reference of the rotary projection ends, its arguments unchanged and its counters at zero. -/
theorem frame_rope_ri : Cert.quiescent_RopeRefIdeal := fun m ρ _ =>
  (θ_run Cert.RopeRefIdeal.defs _ _).mono (fun r h => ⟨fun c => (h c).2.2.2.2, sem_eq_zero_of_no_sems (by decide) r.2⟩)
    (Cert.RopeRefIdeal.Value.run m ρ)

/-- The kernel of the rotary projection and its reference end with the same results from the same arguments. -/
theorem algebraic_rope : Cert.algebraic_RopeIdeal_RopeRefIdeal := by
  intro m g m' g' _ hagree
  refine ⟨fun c => Cert.RopeIdeal.Value.qkA (m ((c.tc : Thread Cert.RopeIdeal.nD Cert.RopeIdeal.τ).loc Cert.RopeIdeal.main_arg0)) (m ((c.tc : Thread Cert.RopeIdeal.nD Cert.RopeIdeal.τ).loc Cert.RopeIdeal.main_arg1)),
    fun c => Cert.RopeIdeal.Value.kkA (m ((c.tc : Thread Cert.RopeIdeal.nD Cert.RopeIdeal.τ).loc Cert.RopeIdeal.main_arg0)) (m ((c.tc : Thread Cert.RopeIdeal.nD Cert.RopeIdeal.τ).loc Cert.RopeIdeal.main_arg1)),
    fun c => (truncf .bf16 ((m ((c.tc : Thread Cert.RopeIdeal.nD Cert.RopeIdeal.τ).loc Cert.RopeIdeal.main_arg2)) : FVec Ideal Cert.RopeIdeal.S4096x2048 .f32) Cert.RopeIdeal.Gen.bitsLt_bf16_f32 : FVec Ideal Cert.RopeIdeal.S4096x2048 .bf16),
    fun c => (truncf .bf16 ((m ((c.tc : Thread Cert.RopeIdeal.nD Cert.RopeIdeal.τ).loc Cert.RopeIdeal.main_arg3)) : FVec Ideal Cert.RopeIdeal.S2048x2048 .f32) Cert.RopeIdeal.Gen.bitsLt_bf16_f32 : FVec Ideal Cert.RopeIdeal.S2048x2048 .bf16), ?_, ?_⟩
  · refine (θ_run Cert.RopeIdeal.defs _ _).mono (fun r h c => ⟨(h c).1.trans ?_, (h c).2.1.trans ?_, (h c).2.2.1.trans ?_, (h c).2.2.2.1.trans ?_, (h c).2.2.2.2⟩)
      (Cert.RopeIdeal.Value.run_blocks m g)
    · exact Cert.RopeIdeal.Value.final7 m c
    · exact Cert.RopeIdeal.Value.final8 m c
    · exact Cert.RopeIdeal.Value.final9 m c
    · exact Cert.RopeIdeal.Value.final10 m c
  · refine (θ_run Cert.RopeRefIdeal.defs _ _).mono (fun r h c => ⟨(h c).1.trans ?_, (h c).2.1.trans ?_, (h c).2.2.1.trans ?_, (h c).2.2.2.1.trans ?_, (h c).2.2.2.2⟩)
      (Cert.RopeRefIdeal.Value.run m' g')
    · refine Eq.trans ?_ (congrArg₂ Cert.RopeIdeal.Value.qkA (hagree c).1 (hagree c).2.1)
      funext i
      exact (congrArg _ (ValueIdx.eq_ix2 i)).trans (Cert.RopeRefIdeal.At.qk_at m' c (i 0) (i 1))
    · refine Eq.trans ?_ (congrArg₂ Cert.RopeIdeal.Value.kkA (hagree c).1 (hagree c).2.1)
      funext i
      exact (congrArg _ (ValueIdx.eq_ix2 i)).trans (Cert.RopeRefIdeal.At.kk_at m' c (i 0) (i 1))
    · rw [(hagree c).2.2.1] <;> rfl
    · rw [(hagree c).2.2.2] <;> rfl

/-- All the claims. -/
theorem claim : Cert.Claim :=
  ⟨Cert.Kernel.Gen.facts, Cert.KernelIdeal.Gen.facts, Cert.ReferenceIdeal.Gen.facts, Cert.Merge.Gen.facts, Cert.MergeIdeal.Gen.facts, Cert.MergeRefIdeal.Gen.facts, Cert.Rest.Gen.facts, Cert.RestIdeal.Gen.facts, Cert.RestRefIdeal.Gen.facts, Cert.Vals.Gen.facts, Cert.ValsIdeal.Gen.facts, Cert.ValsRefIdeal.Gen.facts, Cert.Glu.Gen.facts, Cert.GluIdeal.Gen.facts, Cert.GluRefIdeal.Gen.facts, Cert.Outproj.Gen.facts, Cert.OutprojIdeal.Gen.facts, Cert.OutprojRefIdeal.Gen.facts, Cert.Rope.Gen.facts, Cert.RopeIdeal.Gen.facts, Cert.RopeRefIdeal.Gen.facts, Cert.Pre_finite.facts,
    frame_p, frame_pi, frame_pi_pre, frame_ri, frame_ri_pre, frame_merge_p, frame_merge_pi, frame_merge_ri, frame_rest_p, frame_rest_pi, frame_rest_ri, frame_vals_p, frame_vals_pi, frame_vals_ri, frame_glu_p, frame_glu_pi, frame_glu_ri, frame_outproj_p, frame_outproj_pi, frame_outproj_ri, frame_rope_p, frame_rope_pi, frame_rope_ri, trivial, algebraic, trivial, algebraic_merge, trivial, algebraic_rest, trivial, algebraic_vals, trivial, algebraic_glu, trivial, algebraic_outproj, trivial, algebraic_rope⟩

end Cert.Proof

end
